-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S3x1024x2048 : Shape := ⟨3, ![3, 1024, 2048]⟩
abbrev S3x4096x512 : Shape := ⟨3, ![3, 4096, 512]⟩
abbrev S1024x512 : Shape := ⟨2, ![1024, 512]⟩
abbrev S2x1024x512 : Shape := ⟨3, ![2, 1024, 512]⟩
abbrev S_ : Shape := ⟨0, ![]⟩
abbrev S3 : Shape := ⟨1, ![3]⟩
abbrev S2 : Shape := ⟨1, ![2]⟩
abbrev S12 : Shape := ⟨1, ![12]⟩
abbrev S1 : Shape := ⟨1, ![1]⟩
abbrev S1x4096x512 : Shape := ⟨3, ![1, 4096, 512]⟩
abbrev S4096x512 : Shape := ⟨2, ![4096, 512]⟩
abbrev S1x1024x512 : Shape := ⟨3, ![1, 1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4096x2048, .f32⟩
  | .hbm, ⟨3, _⟩ => ⟨S3x1024x2048, .bf16⟩
  | .local _ .vmem, ⟨0, _⟩ => ⟨S1024x4096, .f32⟩
  | .local _ .vmem, ⟨1, _⟩ => ⟨S3x4096x512, .f32⟩
  | .local _ .vmem, ⟨2, _⟩ => ⟨S3x1024x2048, .bf16⟩
  | .local _ .vmem, ⟨3, _⟩ => ⟨S1024x512, .bf16⟩
  | .local _ .vmem, ⟨4, _⟩ => ⟨S2x1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) (c0_i32_5 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c2048_i32 : BitVec 32 := 2048#32
  let v14 : BitVec 32 := Scalar.muli v13 c2048_i32
  let v15 : BitVec 32 := Scalar.addi v14 c0_i32_5
  ![0, v15.toNat]
def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v58 : BitVec 32 := Scalar.addi v2 c1_i32_37
  let c4_i32_38 : BitVec 32 := 4#32
  let c0_i32_39 : BitVec 32 := 0#32
  let v59 : BitVec 1 := Scalar.cmpi .eq c4_i32_38 c0_i32_39
  let c1_i32_40 : BitVec 32 := 1#32
  let v60 : BitVec 32 := Scalar.select v59 c1_i32_40 c4_i32_38
  let v61 : BitVec 32 := Scalar.remsi v58 v60
  let c0_i32_42 : BitVec 32 := 0#32
  let v63 : BitVec 1 := Scalar.cmpi .slt v61 c0_i32_42
  let c0_i32_43 : BitVec 32 := 0#32
  let v64 : BitVec 1 := Scalar.cmpi .slt v60 c0_i32_43
  let v65 : BitVec 1 := Scalar.xori v63 v64
  let c0_i32_41 : BitVec 32 := 0#32
  let v62 : BitVec 1 := Scalar.cmpi .ne v61 c0_i32_41
  let v66 : BitVec 1 := Scalar.andi v65 v62
  let v67 : BitVec 32 := Scalar.addi v61 v60
  let v68 : BitVec 32 := Scalar.select v66 v67 v61
  let c1_i32_45 : BitVec 32 := 1#32
  let v69 : BitVec 32 := Scalar.muli v68 c1_i32_45
  let v70 : BitVec 32 := Scalar.addi c0_i32_46 v69
  v70.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v71 : BitVec 32 := Scalar.addi v2 c2_i32_47
  let c4_i32_48 : BitVec 32 := 4#32
  let c0_i32_49 : BitVec 32 := 0#32
  let v72 : BitVec 1 := Scalar.cmpi .eq c4_i32_48 c0_i32_49
  let c1_i32_50 : BitVec 32 := 1#32
  let v73 : BitVec 32 := Scalar.select v72 c1_i32_50 c4_i32_48
  let v74 : BitVec 32 := Scalar.remsi v71 v73
  let c0_i32_52 : BitVec 32 := 0#32
  let v76 : BitVec 1 := Scalar.cmpi .slt v74 c0_i32_52
  let c0_i32_53 : BitVec 32 := 0#32
  let v77 : BitVec 1 := Scalar.cmpi .slt v73 c0_i32_53
  let v78 : BitVec 1 := Scalar.xori v76 v77
  let c0_i32_51 : BitVec 32 := 0#32
  let v75 : BitVec 1 := Scalar.cmpi .ne v74 c0_i32_51
  let v79 : BitVec 1 := Scalar.andi v78 v75
  let v80 : BitVec 32 := Scalar.addi v74 v73
  let v81 : BitVec 32 := Scalar.select v79 v80 v74
  let c1_i32_55 : BitVec 32 := 1#32
  let v82 : BitVec 32 := Scalar.muli v81 c1_i32_55
  let v83 : BitVec 32 := Scalar.addi c0_i32_56 v82
  v83.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v84 : BitVec 32 := Scalar.addi v2 c3_i32
  let c4_i32_57 : BitVec 32 := 4#32
  let c0_i32_58 : BitVec 32 := 0#32
  let v85 : BitVec 1 := Scalar.cmpi .eq c4_i32_57 c0_i32_58
  let c1_i32_59 : BitVec 32 := 1#32
  let v86 : BitVec 32 := Scalar.select v85 c1_i32_59 c4_i32_57
  let v87 : BitVec 32 := Scalar.remsi v84 v86
  let c0_i32_61 : BitVec 32 := 0#32
  let v89 : BitVec 1 := Scalar.cmpi .slt v87 c0_i32_61
  let c0_i32_62 : BitVec 32 := 0#32
  let v90 : BitVec 1 := Scalar.cmpi .slt v86 c0_i32_62
  let v91 : BitVec 1 := Scalar.xori v89 v90
  let c0_i32_60 : BitVec 32 := 0#32
  let v88 : BitVec 1 := Scalar.cmpi .ne v87 c0_i32_60
  let v92 : BitVec 1 := Scalar.andi v91 v88
  let v93 : BitVec 32 := Scalar.addi v87 v86
  let v94 : BitVec 32 := Scalar.select v92 v93 v87
  let c1_i32_64 : BitVec 32 := 1#32
  let v95 : BitVec 32 := Scalar.muli v94 c1_i32_64
  let v96 : BitVec 32 := Scalar.addi c0_i32_65 v95
  v96.toNat
def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_92 : BitVec 32 := 2#32
  let v128 : BitVec 32 := Scalar.addi v2 c2_i32_92
  let c4_i32_93 : BitVec 32 := 4#32
  let c0_i32_94 : BitVec 32 := 0#32
  let v129 : BitVec 1 := Scalar.cmpi .eq c4_i32_93 c0_i32_94
  let c1_i32_95 : BitVec 32 := 1#32
  let v130 : BitVec 32 := Scalar.select v129 c1_i32_95 c4_i32_93
  let v131 : BitVec 32 := Scalar.remsi v128 v130
  let c0_i32_97 : BitVec 32 := 0#32
  let v133 : BitVec 1 := Scalar.cmpi .slt v131 c0_i32_97
  let c0_i32_98 : BitVec 32 := 0#32
  let v134 : BitVec 1 := Scalar.cmpi .slt v130 c0_i32_98
  let v135 : BitVec 1 := Scalar.xori v133 v134
  let c0_i32_96 : BitVec 32 := 0#32
  let v132 : BitVec 1 := Scalar.cmpi .ne v131 c0_i32_96
  let v136 : BitVec 1 := Scalar.andi v135 v132
  let v137 : BitVec 32 := Scalar.addi v131 v130
  let v138 : BitVec 32 := Scalar.select v136 v137 v131
  let c1_i32_103 : BitVec 32 := 1#32
  let v139 : BitVec 32 := Scalar.muli v138 c1_i32_103
  let v140 : BitVec 32 := Scalar.addi c0_i32_104 v139
  v140.toNat
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v180 : BitVec 32 := Scalar.addi v2 c2_i32_135
  let c4_i32_136 : BitVec 32 := 4#32
  let c0_i32_137 : BitVec 32 := 0#32
  let v181 : BitVec 1 := Scalar.cmpi .eq c4_i32_136 c0_i32_137
  let c1_i32_138 : BitVec 32 := 1#32
  let v182 : BitVec 32 := Scalar.select v181 c1_i32_138 c4_i32_136
  let v183 : BitVec 32 := Scalar.remsi v180 v182
  let c0_i32_140 : BitVec 32 := 0#32
  let v185 : BitVec 1 := Scalar.cmpi .slt v183 c0_i32_140
  let c0_i32_141 : BitVec 32 := 0#32
  let v186 : BitVec 1 := Scalar.cmpi .slt v182 c0_i32_141
  let v187 : BitVec 1 := Scalar.xori v185 v186
  let c0_i32_139 : BitVec 32 := 0#32
  let v184 : BitVec 1 := Scalar.cmpi .ne v183 c0_i32_139
  let v188 : BitVec 1 := Scalar.andi v187 v184
  let v189 : BitVec 32 := Scalar.addi v183 v182
  let v190 : BitVec 32 := Scalar.select v188 v189 v183
  let c1_i32_146 : BitVec 32 := 1#32
  let v191 : BitVec 32 := Scalar.muli v190 c1_i32_146
  let v192 : BitVec 32 := Scalar.addi c0_i32_147 v191
  v192.toNat
def k0_dev6 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_178 : BitVec 32 := 2#32
  let v232 : BitVec 32 := Scalar.addi v2 c2_i32_178
  let c4_i32_179 : BitVec 32 := 4#32
  let c0_i32_180 : BitVec 32 := 0#32
  let v233 : BitVec 1 := Scalar.cmpi .eq c4_i32_179 c0_i32_180
  let c1_i32_181 : BitVec 32 := 1#32
  let v234 : BitVec 32 := Scalar.select v233 c1_i32_181 c4_i32_179
  let v235 : BitVec 32 := Scalar.remsi v232 v234
  let c0_i32_183 : BitVec 32 := 0#32
  let v237 : BitVec 1 := Scalar.cmpi .slt v235 c0_i32_183
  let c0_i32_184 : BitVec 32 := 0#32
  let v238 : BitVec 1 := Scalar.cmpi .slt v234 c0_i32_184
  let v239 : BitVec 1 := Scalar.xori v237 v238
  let c0_i32_182 : BitVec 32 := 0#32
  let v236 : BitVec 1 := Scalar.cmpi .ne v235 c0_i32_182
  let v240 : BitVec 1 := Scalar.andi v239 v236
  let v241 : BitVec 32 := Scalar.addi v235 v234
  let v242 : BitVec 32 := Scalar.select v240 v241 v235
  let c1_i32_189 : BitVec 32 := 1#32
  let v243 : BitVec 32 := Scalar.muli v242 c1_i32_189
  let v244 : BitVec 32 := Scalar.addi c0_i32_190 v243
  v244.toNat
def k0_dev7 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_222 : BitVec 32 := 2#32
  let v284 : BitVec 32 := Scalar.addi v2 c2_i32_222
  let c4_i32_223 : BitVec 32 := 4#32
  let c0_i32_224 : BitVec 32 := 0#32
  let v285 : BitVec 1 := Scalar.cmpi .eq c4_i32_223 c0_i32_224
  let c1_i32_225 : BitVec 32 := 1#32
  let v286 : BitVec 32 := Scalar.select v285 c1_i32_225 c4_i32_223
  let v287 : BitVec 32 := Scalar.remsi v284 v286
  let c0_i32_227 : BitVec 32 := 0#32
  let v289 : BitVec 1 := Scalar.cmpi .slt v287 c0_i32_227
  let c0_i32_228 : BitVec 32 := 0#32
  let v290 : BitVec 1 := Scalar.cmpi .slt v286 c0_i32_228
  let v291 : BitVec 1 := Scalar.xori v289 v290
  let c0_i32_226 : BitVec 32 := 0#32
  let v288 : BitVec 1 := Scalar.cmpi .ne v287 c0_i32_226
  let v292 : BitVec 1 := Scalar.andi v291 v288
  let v293 : BitVec 32 := Scalar.addi v287 v286
  let v294 : BitVec 32 := Scalar.select v292 v293 v287
  let c1_i32_233 : BitVec 32 := 1#32
  let v295 : BitVec 32 := Scalar.muli v294 c1_i32_233
  let v296 : BitVec 32 := Scalar.addi c0_i32_234 v295
  v296.toNat
def k0_dev8 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_267 : BitVec 32 := 1#32
  let v336 : BitVec 32 := Scalar.addi v2 c1_i32_267
  let c4_i32_268 : BitVec 32 := 4#32
  let c0_i32_269 : BitVec 32 := 0#32
  let v337 : BitVec 1 := Scalar.cmpi .eq c4_i32_268 c0_i32_269
  let c1_i32_270 : BitVec 32 := 1#32
  let v338 : BitVec 32 := Scalar.select v337 c1_i32_270 c4_i32_268
  let v339 : BitVec 32 := Scalar.remsi v336 v338
  let c0_i32_272 : BitVec 32 := 0#32
  let v341 : BitVec 1 := Scalar.cmpi .slt v339 c0_i32_272
  let c0_i32_273 : BitVec 32 := 0#32
  let v342 : BitVec 1 := Scalar.cmpi .slt v338 c0_i32_273
  let v343 : BitVec 1 := Scalar.xori v341 v342
  let c0_i32_271 : BitVec 32 := 0#32
  let v340 : BitVec 1 := Scalar.cmpi .ne v339 c0_i32_271
  let v344 : BitVec 1 := Scalar.andi v343 v340
  let v345 : BitVec 32 := Scalar.addi v339 v338
  let v346 : BitVec 32 := Scalar.select v344 v345 v339
  let c1_i32_278 : BitVec 32 := 1#32
  let v347 : BitVec 32 := Scalar.muli v346 c1_i32_278
  let v348 : BitVec 32 := Scalar.addi c0_i32_279 v347
  v348.toNat
def k0_dev9 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v388 : BitVec 32 := Scalar.addi v2 c1_i32_312
  let c4_i32_313 : BitVec 32 := 4#32
  let c0_i32_314 : BitVec 32 := 0#32
  let v389 : BitVec 1 := Scalar.cmpi .eq c4_i32_313 c0_i32_314
  let c1_i32_315 : BitVec 32 := 1#32
  let v390 : BitVec 32 := Scalar.select v389 c1_i32_315 c4_i32_313
  let v391 : BitVec 32 := Scalar.remsi v388 v390
  let c0_i32_317 : BitVec 32 := 0#32
  let v393 : BitVec 1 := Scalar.cmpi .slt v391 c0_i32_317
  let c0_i32_318 : BitVec 32 := 0#32
  let v394 : BitVec 1 := Scalar.cmpi .slt v390 c0_i32_318
  let v395 : BitVec 1 := Scalar.xori v393 v394
  let c0_i32_316 : BitVec 32 := 0#32
  let v392 : BitVec 1 := Scalar.cmpi .ne v391 c0_i32_316
  let v396 : BitVec 1 := Scalar.andi v395 v392
  let v397 : BitVec 32 := Scalar.addi v391 v390
  let v398 : BitVec 32 := Scalar.select v396 v397 v391
  let c1_i32_322 : BitVec 32 := 1#32
  let v399 : BitVec 32 := Scalar.muli v398 c1_i32_322
  let v400 : BitVec 32 := Scalar.addi c0_i32_323 v399
  v400.toNat
def k0_dev10 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_356 : BitVec 32 := 1#32
  let v440 : BitVec 32 := Scalar.addi v2 c1_i32_356
  let c4_i32_357 : BitVec 32 := 4#32
  let c0_i32_358 : BitVec 32 := 0#32
  let v441 : BitVec 1 := Scalar.cmpi .eq c4_i32_357 c0_i32_358
  let c1_i32_359 : BitVec 32 := 1#32
  let v442 : BitVec 32 := Scalar.select v441 c1_i32_359 c4_i32_357
  let v443 : BitVec 32 := Scalar.remsi v440 v442
  let c0_i32_361 : BitVec 32 := 0#32
  let v445 : BitVec 1 := Scalar.cmpi .slt v443 c0_i32_361
  let c0_i32_362 : BitVec 32 := 0#32
  let v446 : BitVec 1 := Scalar.cmpi .slt v442 c0_i32_362
  let v447 : BitVec 1 := Scalar.xori v445 v446
  let c0_i32_360 : BitVec 32 := 0#32
  let v444 : BitVec 1 := Scalar.cmpi .ne v443 c0_i32_360
  let v448 : BitVec 1 := Scalar.andi v447 v444
  let v449 : BitVec 32 := Scalar.addi v443 v442
  let v450 : BitVec 32 := Scalar.select v448 v449 v443
  let c1_i32_366 : BitVec 32 := 1#32
  let v451 : BitVec 32 := Scalar.muli v450 c1_i32_366
  let v452 : BitVec 32 := Scalar.addi c0_i32_367 v451
  v452.toNat
def k0_dev11 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_400 : BitVec 32 := 1#32
  let v492 : BitVec 32 := Scalar.addi v2 c1_i32_400
  let c4_i32_401 : BitVec 32 := 4#32
  let c0_i32_402 : BitVec 32 := 0#32
  let v493 : BitVec 1 := Scalar.cmpi .eq c4_i32_401 c0_i32_402
  let c1_i32_403 : BitVec 32 := 1#32
  let v494 : BitVec 32 := Scalar.select v493 c1_i32_403 c4_i32_401
  let v495 : BitVec 32 := Scalar.remsi v492 v494
  let c0_i32_405 : BitVec 32 := 0#32
  let v497 : BitVec 1 := Scalar.cmpi .slt v495 c0_i32_405
  let c0_i32_406 : BitVec 32 := 0#32
  let v498 : BitVec 1 := Scalar.cmpi .slt v494 c0_i32_406
  let v499 : BitVec 1 := Scalar.xori v497 v498
  let c0_i32_404 : BitVec 32 := 0#32
  let v496 : BitVec 1 := Scalar.cmpi .ne v495 c0_i32_404
  let v500 : BitVec 1 := Scalar.andi v499 v496
  let v501 : BitVec 32 := Scalar.addi v495 v494
  let v502 : BitVec 32 := Scalar.select v500 v501 v495
  let c1_i32_410 : BitVec 32 := 1#32
  let v503 : BitVec 32 := Scalar.muli v502 c1_i32_410
  let v504 : BitVec 32 := Scalar.addi c0_i32_411 v503
  v504.toNat
def k0_dev12 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_444 : BitVec 32 := 3#32
  let v544 : BitVec 32 := Scalar.addi v2 c3_i32_444
  let c4_i32_445 : BitVec 32 := 4#32
  let c0_i32_446 : BitVec 32 := 0#32
  let v545 : BitVec 1 := Scalar.cmpi .eq c4_i32_445 c0_i32_446
  let c1_i32_447 : BitVec 32 := 1#32
  let v546 : BitVec 32 := Scalar.select v545 c1_i32_447 c4_i32_445
  let v547 : BitVec 32 := Scalar.remsi v544 v546
  let c0_i32_449 : BitVec 32 := 0#32
  let v549 : BitVec 1 := Scalar.cmpi .slt v547 c0_i32_449
  let c0_i32_450 : BitVec 32 := 0#32
  let v550 : BitVec 1 := Scalar.cmpi .slt v546 c0_i32_450
  let v551 : BitVec 1 := Scalar.xori v549 v550
  let c0_i32_448 : BitVec 32 := 0#32
  let v548 : BitVec 1 := Scalar.cmpi .ne v547 c0_i32_448
  let v552 : BitVec 1 := Scalar.andi v551 v548
  let v553 : BitVec 32 := Scalar.addi v547 v546
  let v554 : BitVec 32 := Scalar.select v552 v553 v547
  let c1_i32_454 : BitVec 32 := 1#32
  let v555 : BitVec 32 := Scalar.muli v554 c1_i32_454
  let v556 : BitVec 32 := Scalar.addi c0_i32_455 v555
  v556.toNat
def k0_dev13 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_488 : BitVec 32 := 3#32
  let v596 : BitVec 32 := Scalar.addi v2 c3_i32_488
  let c4_i32_489 : BitVec 32 := 4#32
  let c0_i32_490 : BitVec 32 := 0#32
  let v597 : BitVec 1 := Scalar.cmpi .eq c4_i32_489 c0_i32_490
  let c1_i32_491 : BitVec 32 := 1#32
  let v598 : BitVec 32 := Scalar.select v597 c1_i32_491 c4_i32_489
  let v599 : BitVec 32 := Scalar.remsi v596 v598
  let c0_i32_493 : BitVec 32 := 0#32
  let v601 : BitVec 1 := Scalar.cmpi .slt v599 c0_i32_493
  let c0_i32_494 : BitVec 32 := 0#32
  let v602 : BitVec 1 := Scalar.cmpi .slt v598 c0_i32_494
  let v603 : BitVec 1 := Scalar.xori v601 v602
  let c0_i32_492 : BitVec 32 := 0#32
  let v600 : BitVec 1 := Scalar.cmpi .ne v599 c0_i32_492
  let v604 : BitVec 1 := Scalar.andi v603 v600
  let v605 : BitVec 32 := Scalar.addi v599 v598
  let v606 : BitVec 32 := Scalar.select v604 v605 v599
  let c1_i32_498 : BitVec 32 := 1#32
  let v607 : BitVec 32 := Scalar.muli v606 c1_i32_498
  let v608 : BitVec 32 := Scalar.addi c0_i32_499 v607
  v608.toNat
def k0_dev14 (d0 : Dev nD) : Nat :=
  let c0_i32_543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_532 : BitVec 32 := 3#32
  let v648 : BitVec 32 := Scalar.addi v2 c3_i32_532
  let c4_i32_533 : BitVec 32 := 4#32
  let c0_i32_534 : BitVec 32 := 0#32
  let v649 : BitVec 1 := Scalar.cmpi .eq c4_i32_533 c0_i32_534
  let c1_i32_535 : BitVec 32 := 1#32
  let v650 : BitVec 32 := Scalar.select v649 c1_i32_535 c4_i32_533
  let v651 : BitVec 32 := Scalar.remsi v648 v650
  let c0_i32_537 : BitVec 32 := 0#32
  let v653 : BitVec 1 := Scalar.cmpi .slt v651 c0_i32_537
  let c0_i32_538 : BitVec 32 := 0#32
  let v654 : BitVec 1 := Scalar.cmpi .slt v650 c0_i32_538
  let v655 : BitVec 1 := Scalar.xori v653 v654
  let c0_i32_536 : BitVec 32 := 0#32
  let v652 : BitVec 1 := Scalar.cmpi .ne v651 c0_i32_536
  let v656 : BitVec 1 := Scalar.andi v655 v652
  let v657 : BitVec 32 := Scalar.addi v651 v650
  let v658 : BitVec 32 := Scalar.select v656 v657 v651
  let c1_i32_542 : BitVec 32 := 1#32
  let v659 : BitVec 32 := Scalar.muli v658 c1_i32_542
  let v660 : BitVec 32 := Scalar.addi c0_i32_543 v659
  v660.toNat
def k0_dev15 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_576 : BitVec 32 := 3#32
  let v700 : BitVec 32 := Scalar.addi v2 c3_i32_576
  let c4_i32_577 : BitVec 32 := 4#32
  let c0_i32_578 : BitVec 32 := 0#32
  let v701 : BitVec 1 := Scalar.cmpi .eq c4_i32_577 c0_i32_578
  let c1_i32_579 : BitVec 32 := 1#32
  let v702 : BitVec 32 := Scalar.select v701 c1_i32_579 c4_i32_577
  let v703 : BitVec 32 := Scalar.remsi v700 v702
  let c0_i32_581 : BitVec 32 := 0#32
  let v705 : BitVec 1 := Scalar.cmpi .slt v703 c0_i32_581
  let c0_i32_582 : BitVec 32 := 0#32
  let v706 : BitVec 1 := Scalar.cmpi .slt v702 c0_i32_582
  let v707 : BitVec 1 := Scalar.xori v705 v706
  let c0_i32_580 : BitVec 32 := 0#32
  let v704 : BitVec 1 := Scalar.cmpi .ne v703 c0_i32_580
  let v708 : BitVec 1 := Scalar.andi v707 v704
  let v709 : BitVec 32 := Scalar.addi v703 v702
  let v710 : BitVec 32 := Scalar.select v708 v709 v703
  let c1_i32_586 : BitVec 32 := 1#32
  let v711 : BitVec 32 := Scalar.muli v710 c1_i32_586
  let v712 : BitVec 32 := Scalar.addi c0_i32_587 v711
  v712.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_606 : BitVec 32 := 1024#32
  let v733 : BitVec 32 := Scalar.muli v2 c1024_i32_606
  let c0_i32_609 : BitVec 32 := 0#32
  ![v733.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_640 : BitVec 32 := 1024#32
  let v769 : BitVec 32 := Scalar.muli v2 c1024_i32_640
  let c512_i32_643 : BitVec 32 := 512#32
  ![v769.toNat, 512]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_665 : BitVec 32 := 1024#32
  let v792 : BitVec 32 := Scalar.muli v2 c1024_i32_665
  let c1024_i32_668 : BitVec 32 := 1024#32
  ![v792.toNat, 1024]
def k0_off5 (d0 : Dev nD) (c2_i32_671 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v798 : BitVec 32 := Scalar.subi v2 c2_i32_671
  let c4_i32_672 : BitVec 32 := 4#32
  let c0_i32_673 : BitVec 32 := 0#32
  let v799 : BitVec 1 := Scalar.cmpi .eq c4_i32_672 c0_i32_673
  let c1_i32_674 : BitVec 32 := 1#32
  let v800 : BitVec 32 := Scalar.select v799 c1_i32_674 c4_i32_672
  let v801 : BitVec 32 := Scalar.remsi v798 v800
  let c0_i32_676 : BitVec 32 := 0#32
  let v803 : BitVec 1 := Scalar.cmpi .slt v801 c0_i32_676
  let c0_i32_677 : BitVec 32 := 0#32
  let v804 : BitVec 1 := Scalar.cmpi .slt v800 c0_i32_677
  let v805 : BitVec 1 := Scalar.xori v803 v804
  let c0_i32_675 : BitVec 32 := 0#32
  let v802 : BitVec 1 := Scalar.cmpi .ne v801 c0_i32_675
  let v806 : BitVec 1 := Scalar.andi v805 v802
  let v807 : BitVec 32 := Scalar.addi v801 v800
  let v808 : BitVec 32 := Scalar.select v806 v807 v801
  let c1024_i32_704 : BitVec 32 := 1024#32
  let v831 : BitVec 32 := Scalar.muli v808 c1024_i32_704
  let c0_i32_707 : BitVec 32 := 0#32
  ![v831.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_729 : BitVec 32 := 1024#32
  let v854 : BitVec 32 := Scalar.muli v2 c1024_i32_729
  let c1536_i32_732 : BitVec 32 := 1536#32
  ![v854.toNat, 1536]
def k0_off7 (d0 : Dev nD) (c2_i32_735 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v860 : BitVec 32 := Scalar.subi v2 c2_i32_735
  let c4_i32_736 : BitVec 32 := 4#32
  let c0_i32_737 : BitVec 32 := 0#32
  let v861 : BitVec 1 := Scalar.cmpi .eq c4_i32_736 c0_i32_737
  let c1_i32_738 : BitVec 32 := 1#32
  let v862 : BitVec 32 := Scalar.select v861 c1_i32_738 c4_i32_736
  let v863 : BitVec 32 := Scalar.remsi v860 v862
  let c0_i32_740 : BitVec 32 := 0#32
  let v865 : BitVec 1 := Scalar.cmpi .slt v863 c0_i32_740
  let c0_i32_741 : BitVec 32 := 0#32
  let v866 : BitVec 1 := Scalar.cmpi .slt v862 c0_i32_741
  let v867 : BitVec 1 := Scalar.xori v865 v866
  let c0_i32_739 : BitVec 32 := 0#32
  let v864 : BitVec 1 := Scalar.cmpi .ne v863 c0_i32_739
  let v868 : BitVec 1 := Scalar.andi v867 v864
  let v869 : BitVec 32 := Scalar.addi v863 v862
  let v870 : BitVec 32 := Scalar.select v868 v869 v863
  let c1024_i32_768 : BitVec 32 := 1024#32
  let v893 : BitVec 32 := Scalar.muli v870 c1024_i32_768
  let c512_i32_771 : BitVec 32 := 512#32
  ![v893.toNat, 512]
def k0_off8 (d0 : Dev nD) (c2_i32_774 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v899 : BitVec 32 := Scalar.subi v2 c2_i32_774
  let c4_i32_775 : BitVec 32 := 4#32
  let c0_i32_776 : BitVec 32 := 0#32
  let v900 : BitVec 1 := Scalar.cmpi .eq c4_i32_775 c0_i32_776
  let c1_i32_777 : BitVec 32 := 1#32
  let v901 : BitVec 32 := Scalar.select v900 c1_i32_777 c4_i32_775
  let v902 : BitVec 32 := Scalar.remsi v899 v901
  let c0_i32_779 : BitVec 32 := 0#32
  let v904 : BitVec 1 := Scalar.cmpi .slt v902 c0_i32_779
  let c0_i32_780 : BitVec 32 := 0#32
  let v905 : BitVec 1 := Scalar.cmpi .slt v901 c0_i32_780
  let v906 : BitVec 1 := Scalar.xori v904 v905
  let c0_i32_778 : BitVec 32 := 0#32
  let v903 : BitVec 1 := Scalar.cmpi .ne v902 c0_i32_778
  let v907 : BitVec 1 := Scalar.andi v906 v903
  let v908 : BitVec 32 := Scalar.addi v902 v901
  let v909 : BitVec 32 := Scalar.select v907 v908 v902
  let c1024_i32_807 : BitVec 32 := 1024#32
  let v932 : BitVec 32 := Scalar.muli v909 c1024_i32_807
  let c1024_i32_810 : BitVec 32 := 1024#32
  ![v932.toNat, 1024]
def k0_off9 (d0 : Dev nD) (c2_i32_813 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v938 : BitVec 32 := Scalar.subi v2 c2_i32_813
  let c4_i32_814 : BitVec 32 := 4#32
  let c0_i32_815 : BitVec 32 := 0#32
  let v939 : BitVec 1 := Scalar.cmpi .eq c4_i32_814 c0_i32_815
  let c1_i32_816 : BitVec 32 := 1#32
  let v940 : BitVec 32 := Scalar.select v939 c1_i32_816 c4_i32_814
  let v941 : BitVec 32 := Scalar.remsi v938 v940
  let c0_i32_818 : BitVec 32 := 0#32
  let v943 : BitVec 1 := Scalar.cmpi .slt v941 c0_i32_818
  let c0_i32_819 : BitVec 32 := 0#32
  let v944 : BitVec 1 := Scalar.cmpi .slt v940 c0_i32_819
  let v945 : BitVec 1 := Scalar.xori v943 v944
  let c0_i32_817 : BitVec 32 := 0#32
  let v942 : BitVec 1 := Scalar.cmpi .ne v941 c0_i32_817
  let v946 : BitVec 1 := Scalar.andi v945 v942
  let v947 : BitVec 32 := Scalar.addi v941 v940
  let v948 : BitVec 32 := Scalar.select v946 v947 v941
  let c1024_i32_846 : BitVec 32 := 1024#32
  let v971 : BitVec 32 := Scalar.muli v948 c1024_i32_846
  let c1536_i32_849 : BitVec 32 := 1536#32
  ![v971.toNat, 1536]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
# 01_k — the kernel's program, by steps

The printed body of the kernel is one long sequence. Here it is written again as what the source means: three copies of
weight columns started, the entry handshake, twelve SEND steps (one piece of the product computed, stored and sent),
sixteen OUTPUT stages (four of this device's own pieces, twelve of the received ones) and the closing waits; every
buffer, piece and semaphore a family over its number. `body_eq` says the two are the same program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Tactic

@[expose] public section

set_option maxRecDepth 16384

noncomputable section

namespace Cert.Kern

open Cert.KernelIdeal Cert.KernelIdeal.Gen

open Idealize.ShloMosaic Idealize.ShloMosaic.TcCoe
open Idealize.SL Idealize.SL.Sem

variable {F : FTy → Type} [FloatOps F]

/-- A piece of the kernel's program. -/
abbrev PG (F : FTy → Type) [FloatOps F] (α : Type) := Prog (TpuEff nD τ sig (Elt F) Λ₀ .tc) α

/-! ## The buffers -/

abbrev xH : Memref sig .tc .hbm S1024x4096 .f32 := Memref.whole main_arg0
abbrev wH : Memref sig .tc .hbm S4096x8192 .f32 := Memref.whole main_arg1
abbrev oH : Memref sig .tc .hbm S4096x2048 .f32 := Memref.whole main_v1_0
abbrev rH : Memref sig .tc .hbm S3x1024x2048 .bf16 := Memref.whole main_v1_1
abbrev xB : Memref sig .tc .vmem S1024x4096 .f32 := Memref.whole cc0_scratch0
abbrev wB : Memref sig .tc .vmem S3x4096x512 .f32 := Memref.whole cc0_scratch1
abbrev sB : Memref sig .tc .vmem S3x1024x2048 .bf16 := Memref.whole cc0_scratch2
abbrev pB : Memref sig .tc .vmem S1024x512 .bf16 := Memref.whole cc0_scratch3
abbrev tB : Memref sig .tc .vmem S2x1024x512 .f32 := Memref.whole cc0_scratch4

/-! ## Where each step works -/

/-- Piece `i` of a three-slab buffer: slab `i / 4`, columns `512 (i mod 4)` onward. -/
abbrev pieceOff (i : Fin 12) : Fin 3 → Nat := ![i.val / 4, 0, 512 * (i.val % 4)]
theorem pieceOff_inb (i : Fin 12) : ∀ a, pieceOff i a + S1x1024x512.size a ≤ S3x1024x2048.size a := by
  revert i; decide
abbrev pieceR (i : Fin 12) : Rect S3x1024x2048 := Rect.unit (s := S3x1024x2048) (pieceOff i) S1x1024x512.size (pieceOff_inb i)

/-- Slot `k` of the weight buffer. -/
theorem slotOff_inb (k : Fin 3) : ∀ a, (![k.val, 0, 0] : Fin 3 → Nat) a + S1x4096x512.size a ≤ S3x4096x512.size a := by
  revert k; decide
abbrev slotR (k : Fin 3) : Rect S3x4096x512 := Rect.unit (s := S3x4096x512) ![k.val, 0, 0] S1x4096x512.size (slotOff_inb k)

/-- Slot `o` of the staging buffer of the output. -/
theorem stageOff_inb (o : Fin 2) : ∀ a, (![o.val, 0, 0] : Fin 3 → Nat) a + S1x1024x512.size a ≤ S2x1024x512.size a := by
  revert o; decide
abbrev stageR (o : Fin 2) : Rect S2x1024x512 := Rect.unit (s := S2x1024x512) ![o.val, 0, 0] S1x1024x512.size (stageOff_inb o)

/-- The ring distance of slab `j`'s peer: slab 0 goes two devices on, slab 1 one, slab 2 three; no slab (3) stays. -/
abbrev dist : Nat → Nat
  | 0 => 2 | 1 => 1 | 2 => 3 | _ => 0
abbrev distW : Nat → BitVec 32
  | 0 => 2#32 | 1 => 1#32 | 2 => 3#32 | _ => 0#32
abbrev colW : Nat → BitVec 32
  | 0 => 0#32 | 1 => 512#32 | 2 => 1024#32 | _ => 1536#32

/-- The device `j` places after `c`. -/
def fwd (c : Dev nD) (j : Nat) : Dev nD := ⟨(c.val + j) % 4, Nat.mod_lt _ (by decide)⟩

/-- The weight columns of compute step `s`: the block of the device the step computes for, a quarter of it. -/
abbrev wOff (c : Dev nD) (s : Fin 16) : Fin 2 → Nat := k0_off1 c (distW (s.val / 4)) (colW (s.val % 4))
theorem wOff_eq : ∀ (c : Dev nD) (s : Fin 16), wOff c s = ![0, 2048 * (fwd c (dist (s.val / 4))).val + 512 * (s.val % 4)] := by
  decide +kernel
theorem wOff_inb (c : Dev nD) (s : Fin 16) : ∀ a, wOff c s a + S4096x512.size a ≤ S4096x8192.size a := by
  rw [wOff_eq]; revert c s; decide +kernel

/-- The device piece `i` is sent to. -/
abbrev sendDev (c : Dev nD) : Nat → Dev nD
  | 0 => ⟨k0_dev4 c, k0_dev4_lt c⟩ | 1 => ⟨k0_dev8 c, k0_dev8_lt c⟩ | _ => ⟨k0_dev12 c, k0_dev12_lt c⟩
theorem sendDev_eq : ∀ (c : Dev nD) (j : Fin 3), sendDev c j.val = fwd c (dist j.val) := by decide +kernel

/-- Where the received piece `i` goes in the result: the rows of the device that sent it. -/
abbrev drainOff (c : Dev nD) (i : Nat) : Fin 2 → Nat := match i % 4 with
  | 0 => k0_off5 c (distW (i / 4)) | 1 => k0_off7 c (distW (i / 4)) | 2 => k0_off8 c (distW (i / 4)) | _ => k0_off9 c (distW (i / 4))

/-- Where output stage `t` writes: stages 0, 1, 2 and 4 this device's own four pieces, stage 3 the first received piece
    and stage `i + 4` the received piece `i` after it. -/
abbrev outOff (c : Dev nD) : Nat → Fin 2 → Nat
  | 0 => k0_off2 c | 1 => k0_off3 c | 2 => k0_off4 c | 3 => drainOff c 0 | 4 => k0_off6 c | n + 5 => drainOff c (n + 1)

/-- How far back in the ring the rows of stage `t` come from, and which quarter of the columns they are. -/
abbrev stageDist : Nat → Nat
  | 0 => 0 | 1 => 0 | 2 => 0 | 3 => 2 | 4 => 0 | n + 5 => dist ((n + 1) / 4)
abbrev stageCol : Nat → Nat
  | 0 => 0 | 1 => 1 | 2 => 2 | 3 => 0 | 4 => 3 | n + 5 => (n + 1) % 4
/-- The device stage `t`'s rows come from. -/
def stageSrc (c : Dev nD) (t : Nat) : Dev nD := ⟨(c.val + (4 - stageDist t)) % 4, Nat.mod_lt _ (by decide)⟩

theorem outOff_eq : ∀ (c : Dev nD) (t : Fin 16), outOff c t.val = ![1024 * (stageSrc c t.val).val, 512 * stageCol t.val] := by
  decide +kernel
theorem outOff_inb (c : Dev nD) (t : Fin 16) : ∀ a, outOff c t.val a + S1024x512.size a ≤ S4096x2048.size a := by
  rw [outOff_eq]; revert c t; decide +kernel

/-! ## The memrefs the transfers name -/

abbrev wCol (c : Dev nD) (s : Fin 16) : Memref sig .tc .hbm S4096x512 .f32 :=
  wH.slice (Rect.unit (s := S4096x8192) (wOff c s) S4096x512.size (wOff_inb c s)) (fun _ => rfl)
abbrev wSlot (k : Fin 3) : Memref sig .tc .vmem S4096x512 .f32 :=
  (wB.slice (slotR k) (fun _ => rfl)).squeeze S4096x512 squeezes_S1x4096x512_S4096x512
abbrev sPiece (i : Fin 12) : Memref sig .tc .vmem S1024x512 .bf16 :=
  (sB.slice (pieceR i) (fun _ => rfl)).squeeze S1024x512 squeezes_S1x1024x512_S1024x512
abbrev rPiece (i : Fin 12) : Memref sig .tc .hbm S1024x512 .bf16 :=
  (rH.slice (pieceR i) (fun _ => rfl)).squeeze S1024x512 squeezes_S1x1024x512_S1024x512
abbrev tSlot (o : Fin 2) : Memref sig .tc .vmem S1024x512 .f32 :=
  (tB.slice (stageR o) (fun _ => rfl)).squeeze S1024x512 squeezes_S1x1024x512_S1024x512
abbrev oPiece (c : Dev nD) (t : Fin 16) : Memref sig .tc .hbm S1024x512 .f32 :=
  oH.slice (Rect.unit (s := S4096x2048) (outOff c t.val) S1024x512.size (outOff_inb c t)) (fun _ => rfl)

theorem pieceR_packed (i : Fin 12) : (pieceR i).PackedRows (EltTy.packing .bf16) := by revert i; decide
theorem pieceR_words (i : Fin 12) : (pieceR i).WholeWords (EltTy.packing .bf16) := by revert i; decide
theorem sPiece_wordExact (i : Fin 12) : (sPiece i).view.WordExact :=
  ((Memref.isWhole_whole _ : sB.IsWhole).wordExact_slice rfl _ (pieceR_words i)).reshape _ _
theorem rPiece_wordExact (i : Fin 12) : (rPiece i).view.WordExact :=
  ((Memref.isWhole_whole _ : rH.IsWhole).wordExact_slice rfl _ (pieceR_words i)).reshape _ _
theorem pB_wordExact : pB.view.WordExact := (Memref.isWhole_whole _ : pB.IsWhole).wordExact
theorem piece_stores (i : Fin 12) : (sB.access (pieceR i)).Stores Finset.univ :=
  View.stores_vmem h_S1x1024x512 ((Memref.isWhole_whole _ : sB.IsWhole).storeExact_slice rfl _ (pieceR_packed i)) (fun _ => rfl)

/-! ## The semaphores -/

theorem sem3_inb (k : Fin 3) : ∀ a, (![k.val] : Fin 1 → Nat) a + S1.size a ≤ S3.size a := by revert k; decide
theorem sem2_inb (k : Fin 2) : ∀ a, (![k.val] : Fin 1 → Nat) a + S1.size a ≤ S2.size a := by revert k; decide
theorem sem12_inb (i : Fin 12) : ∀ a, (![i.val] : Fin 1 → Nat) a + S1.size a ≤ S12.size a := by revert i; decide

abbrev barS : Sem sig := (SemArray.scalar (sig.barrier 0 rfl) : Sems sig S_).sem
abbrev xS : DmaSem sig := (cc0_scratch5 : DmaSems sig S_).sem
abbrev wS (k : Fin 3) : DmaSem sig :=
  (((cc0_scratch6 : DmaSems sig S3).slice (Rect.unit (s := S3) ![k.val] S1.size (sem3_inb k))).squeeze S_ squeezes_S1_S_).sem
abbrev pS : DmaSem sig := (cc0_scratch7 : DmaSems sig S_).sem
abbrev tS (o : Fin 2) : DmaSem sig :=
  (((cc0_scratch8 : DmaSems sig S2).slice (Rect.unit (s := S2) ![o.val] S1.size (sem2_inb o))).squeeze S_ squeezes_S1_S_).sem
abbrev sS (i : Fin 12) : DmaSem sig :=
  (((cc0_scratch9 : DmaSems sig S12).slice (Rect.unit (s := S12) ![i.val] S1.size (sem12_inb i))).squeeze S_ squeezes_S1_S_).sem
abbrev rS (i : Fin 12) : DmaSem sig :=
  (((cc0_scratch10 : DmaSems sig S12).slice (Rect.unit (s := S12) ![i.val] S1.size (sem12_inb i))).squeeze S_ squeezes_S1_S_).sem

/-! ## The values -/

/-- A block of the product: `x` times the weight columns a slot holds. -/
def mm (x : Vec F S1024x4096 .f32) (w : Vec F S4096x512 .f32) : FVec F S1024x512 .f32 :=
  matmul dot_S1024x4096_S4096x512_S1024x512_1_0_0_1_n_n none x w (constant S1024x512 .f32 0x00000000#32)
/-- The same, rounded to the format it is sent in. -/
def mmB (x : Vec F S1024x4096 .f32) (w : Vec F S4096x512 .f32) : FVec F S1024x512 .bf16 := truncf .bf16 (mm x w) bitsLt_bf16_f32

/-! ## The steps -/

abbrev slotOf (s : Fin 16) : Fin 3 := ⟨s.val % 3, Nat.mod_lt _ (by decide)⟩
abbrev stageOf (t : Fin 16) : Fin 2 := ⟨t.val % 2, Nat.mod_lt _ (by decide)⟩

/-- Start the copy of the weight columns of step `s` into its slot; wait for it. -/
def wStart (c : Dev nD) (s : Fin 16) : PG F PUnit :=
  Prog.lift (.enqueueDma (wCol c s) (.here (wSlot (slotOf s))) (.dma (wS (slotOf s)))
    (View.wordExact_bits rfl) ((View.wordExact_bits rfl).reshape _ _) ⟨Or.inl rfl, trivial⟩)
def wWait (c : Dev nD) (s : Fin 16) : PG F PUnit :=
  Prog.lift (.waitDma2 (wS (slotOf s)) (wCol c s) (wSlot (slotOf s)) (View.wordExact_bits rfl) ((View.wordExact_bits rfl).reshape _ _))

def xStart : PG F PUnit :=
  Prog.lift (.enqueueDma xH (.here xB) (.dma xS) (Memref.isWhole_whole _).wordExact (Memref.isWhole_whole _).wordExact ⟨Or.inl rfl, trivial⟩)
def xWait : PG F PUnit := Prog.lift (.waitDma2 xS xH xB (Memref.isWhole_whole _).wordExact (Memref.isWhole_whole _).wordExact)

abbrev xR : Rect S1024x4096 := Rect.unit (s := S1024x4096) ![0, 0] S1024x4096.size inb_S1024x4096_S1024x4096_0_0
abbrev pR : Rect S1024x512 := Rect.unit (s := S1024x512) ![0, 0] S1024x512.size inb_S1024x512_S1024x512_0_0

def xLoad : PG F (Vec F S1024x4096 .f32) := Prog.lift (.load xB xR.toLoadRect (View.loadsAt_vmem h_S1024x4096))
def wLoad (k : Fin 3) : PG F (Vec F S1x4096x512 .f32) := Prog.lift (.load wB (slotR k).toLoadRect (View.loadsAt_vmem h_S1x4096x512))
def sLoad (i : Fin 12) : PG F (Vec F S1x1024x512 .bf16) := Prog.lift (.load sB (pieceR i).toLoadRect (View.loadsAt_vmem h_S1x1024x512))
def tLoad (o : Fin 2) : PG F (Vec F S1x1024x512 .f32) := Prog.lift (.load tB (stageR o).toLoadRect (View.loadsAt_vmem h_S1x1024x512))
def pLoad : PG F (Vec F S1024x512 .bf16) := Prog.lift (.load pB pR.toLoadRect (View.loadsAt_vmem h_S1024x512))
def sStore (i : Fin 12) (v : FVec F S1024x512 .bf16) : PG F PUnit :=
  Prog.lift (.store sB (pieceR i) (shapeCast S1x1024x512 v shapeCasts_S1024x512_S1x1024x512) Finset.univ (piece_stores i) (.inl rfl))
def tStore (o : Fin 2) (v : FVec F S1024x512 .f32) : PG F PUnit :=
  Prog.lift (.store tB (stageR o) (shapeCast S1x1024x512 v shapeCasts_S1024x512_S1x1024x512) Finset.univ
    (View.stores_vmem_bits_univ h_S1x1024x512 rfl) (.inl rfl))

/-- Piece `i` sent to its device, completing there on receive semaphore `i` and here on send semaphore `i`. -/
def sSend (c : Dev nD) (i : Fin 12) : PG F PUnit :=
  Prog.lift (.enqueueDma (sPiece i) (.remote (Dev.tc (sendDev c (i.val / 4))) (rPiece i) (.dma (sS i))) (.dma (rS i))
    (sPiece_wordExact i) (rPiece_wordExact i) ⟨⟨rfl, Or.inl rfl⟩, trivial⟩)

/-- The weight columns an own or send step loaded. -/
abbrev wVal (w : Vec F S1x4096x512 .f32) : Vec F S4096x512 .f32 := shapeCast S4096x512 w shapeCasts_S1x4096x512_S4096x512

/-- Send step `i`: its weights awaited, the piece computed and stored, the copy three steps on started, the piece sent. -/
def sendStep (c : Dev nD) (i : Fin 12) : PG F PUnit := do
  wWait c ⟨i.val, by omega⟩
  let x ← xLoad
  let w ← wLoad (slotOf ⟨i.val, by omega⟩)
  let _ ← sLoad i
  sStore i (mmB x (wVal w))
  wStart c ⟨i.val + 3, by omega⟩
  sSend c i

/-- The copy out of stage `t` from its staging slot; the wait for it. -/
def oStart (c : Dev nD) (t : Fin 16) : PG F PUnit :=
  Prog.lift (.enqueueDma (tSlot (stageOf t)) (.here (oPiece c t)) (.dma (tS (stageOf t)))
    ((View.wordExact_bits rfl).reshape _ _) (View.wordExact_bits rfl) ⟨Or.inl rfl, trivial⟩)
def oWait (c : Dev nD) (t : Fin 16) : PG F PUnit :=
  Prog.lift (.waitDma2 (tS (stageOf t)) (tSlot (stageOf t)) (oPiece c t) ((View.wordExact_bits rfl).reshape _ _) (View.wordExact_bits rfl))
/-- Before stage `t` fills its slot, the slot's last copy is awaited: stage `t - 2`'s, when there is one. -/
def oFree (c : Dev nD) (t : Fin 16) : PG F PUnit :=
  if h : 2 ≤ t.val then oWait c ⟨t.val - 2, by omega⟩ else pure ⟨⟩
/-- Stage `t` stores its value and starts its copy out. -/
def oFill (c : Dev nD) (t : Fin 16) (v : FVec F S1024x512 .f32) : PG F PUnit := do
  let _ ← tLoad (stageOf t)
  tStore (stageOf t) v
  oStart c t

/-- Own step `q` at stage `t`: its weights awaited, the piece computed and put out. -/
def ownStep (c : Dev nD) (q : Fin 4) (t : Fin 16) : PG F PUnit := do
  wWait c ⟨12 + q.val, by omega⟩
  oFree c t
  let x ← xLoad
  let w ← wLoad (slotOf ⟨12 + q.val, by omega⟩)
  oFill c t (mm x (wVal w))

def rWait (i : Fin 12) : PG F PUnit :=
  Prog.lift (.waitDma2 (rS i) (sPiece i) (rPiece i) (sPiece_wordExact i) (rPiece_wordExact i))
def pStart (i : Fin 12) : PG F PUnit :=
  Prog.lift (.enqueueDma (rPiece i) (.here pB) (.dma pS) (rPiece_wordExact i) pB_wordExact ⟨Or.inl rfl, trivial⟩)
def pWait (i : Fin 12) : PG F PUnit := Prog.lift (.waitDma2 pS (rPiece i) pB (rPiece_wordExact i) pB_wordExact)

/-- Drain step `i` at stage `t`: the received piece awaited, copied in, widened and put out. -/
def drainStep (c : Dev nD) (i : Fin 12) (t : Fin 16) : PG F PUnit := do
  rWait i
  pStart i
  pWait i
  oFree c t
  let v ← pLoad
  oFill c t (extf .f32 v bitsLt_bf16_f32)

def sWait (i : Fin 12) : PG F PUnit :=
  Prog.lift (.waitDma2 (sS i) (rPiece i) (sPiece i) (rPiece_wordExact i) (sPiece_wordExact i))

/-- `n` steps in a row from number `k`. -/
def repeatFrom (f : Nat → PG F PUnit) : Nat → Nat → PG F PUnit
  | 0, _ => pure ⟨⟩
  | n + 1, k => do f k; repeatFrom f n (k + 1)

/-- Number `k` as one of `n + 1`. -/
abbrev nth (n k : Nat) : Fin (n + 1) := Fin.ofNat (n + 1) k

def bar1 (c : Dev nD) : PG F PUnit := semSignalWord (⟨k0_dev1 c, k0_dev1_lt c⟩ : Dev nD) barS 1#32
def bar2 (c : Dev nD) : PG F PUnit := semSignalWord (⟨k0_dev2 c, k0_dev2_lt c⟩ : Dev nD) barS 1#32
def bar3 (c : Dev nD) : PG F PUnit := semSignalWord (⟨k0_dev3 c, k0_dev3_lt c⟩ : Dev nD) barS 1#32
def barWait : PG F PUnit := semWaitWord barS 3#32

/-- The kernel's program on device `c`. -/
def prog (c : Dev nD) : PG F PUnit := do
  xStart
  wStart c 0
  wStart c 1
  wStart c 2
  bar1 c
  bar2 c
  bar3 c
  barWait
  xWait
  repeatFrom (fun k => sendStep c (nth 11 k)) 12 0
  ownStep c 0 0
  wStart c 15
  ownStep c 1 1
  ownStep c 2 2
  drainStep c 0 3
  ownStep c 3 4
  repeatFrom (fun k => drainStep c (nth 11 k) (nth 15 (k + 4))) 11 1
  oWait c 14
  oWait c 15
  repeatFrom (fun k => sWait (nth 11 k)) 12 0

/-- The kernel's printed body is that program at the device it runs on. -/
theorem body_eq : bodyAt0 (F := F) t0_0 = Prog.op .deviceId fun c => prog (F := F) c := by
  chain_rfl

end Cert.Kern

end
-- ==== Proof.Ops.lean ====
/-
# 01_k — the kernel's operations, one rule each

What a device holds of a piece of a buffer is `owns` of the piece's memref at the value it reads; `anyOf` at some value.
Each kind of operation the program performs — a copy started and awaited on the device's own semaphore, a load, a store —
is given here once, for every piece, in those terms.
-/
module

public import proofs.«01_k».proof.Proof.Prog
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Memref
public import Idealize.SL.BI.BigOpNat

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's rounds, the protocol's rounds (duties numbered by slab), the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- Device `c` runs `p`, and what is then true of its result is `Q`. -/
abbrev runs (c : Dev nD) {α : Type} (p : PG F α) (Q : α → sProp 𝕄) : sProp 𝕄 :=
  wp frame (wpE (defs₀ (F := F)) 𝒱₀ (c : Thread nD τ) none) Set.univ p Q

/-- A piece of device `c`'s memory, at some value. -/
def anyOf (c : Dev nD) {sp : Space} {s : Shape} {e : EltTy} (m : Memref sig .tc sp s e) : sProp 𝕄 :=
  iprop(∃ f, m.view.loc (c : Thread nD τ) ↦[m.view.set]{fullShare} f)

/-- What device `c` owes, the waits it has made left unsaid. -/
def owe (c : Dev nD) (O : CellTallies nD τ sig Unit) : sProp 𝕄 := iprop(∃ W, owes (c : Thread nD τ) O W)

instance anyOf_storable (c : Dev nD) {sp : Space} {s : Shape} {e : EltTy} (m : Memref sig .tc sp s e) :
    BI.Storable (upEmb : UEmb _ 𝕄) (anyOf (F := F) c m) := by unfold anyOf; infer_instance

abbrev whl (c : Dev nD) {sp : Space} {s : Shape} {e : EltTy} (m : Memref sig .tc sp s e) (X : s.Idx → Elt F e) : sProp 𝕄 :=
  owns (c : Thread nD τ) m fullShare X

theorem whl_anyOf (c : Dev nD) {sp : Space} {s : Shape} {e : EltTy} (m : Memref sig .tc sp s e) (X : s.Idx → Elt F e) :
    (whl c m X : sProp 𝕄) ⊢ anyOf c m := by
  unfold whl owns anyOf
  iintro ⟨%f, -, H⟩
  iexists f; iexact H

/-- Two runs of numbered resources that meet are one. -/
theorem bigSep_runs {a b d : ℕ} (hab : a ≤ b) (hbd : b ≤ d) (A : ℕ → sProp 𝕄) :
    bigSep (Finset.Ico a d) A = iprop(bigSep (Finset.Ico a b) A ∗ bigSep (Finset.Ico b d) A) := by
  rw [← Finset.Ico_union_Ico_eq_Ico hab hbd]
  exact bigSep_union (Finset.Ico_disjoint_Ico_consecutive a b d)

/-- A family over `n + 1` members as a run of numbers. -/
theorem bigSep_fin_run (n : ℕ) (A : Fin (n + 1) → sProp 𝕄) :
    bigSep Finset.univ A = bigSep (Finset.Ico 0 (n + 1)) fun k => A (nth n k) := by
  rw [show Finset.Ico 0 (n + 1) = Finset.univ.map (Fin.valEmbedding : Fin (n + 1) ↪ ℕ) from by
    ext x
    simp only [Finset.mem_Ico, Finset.mem_map, Finset.mem_univ, true_and, Fin.valEmbedding_apply]
    exact ⟨fun h => ⟨⟨x, h.2⟩, rfl⟩, fun ⟨y, hy⟩ => hy ▸ ⟨Nat.zero_le _, y.isLt⟩⟩, bigSep_map]
  exact bigSep_congr fun i _ => congrArg A (Fin.ext (Nat.mod_eq_of_lt i.isLt).symm)

/-! ## Sequencing -/

theorem runs_bind (c : Dev nD) {α β : Type} (p : PG F α) (k : α → PG F β) (Q : β → sProp 𝕄) :
    runs c (p >>= k) Q = runs c p fun a => runs c (k a) Q := wp_bind _ _ _ _ _ _

theorem runs_pure (c : Dev nD) {α : Type} (a : α) (Q : α → sProp 𝕄) : Q a ⊢ runs (F := F) c (pure a) Q :=
  le_wp_ret _ _ _ a Q

/-- A step repeated: from what holds before each step to what holds before the next. -/
theorem runs_repeat (c : Dev nD) (f : Nat → PG F PUnit) (I : Nat → sProp 𝕄) : ∀ (n k : Nat)
    (step : ∀ j, k ≤ j → j < k + n → ∀ Q : PUnit → sProp 𝕄, I j ⊢ iprop((I (j + 1) -∗ Q ⟨⟩) -∗ runs c (f j) Q)) (Q : PUnit → sProp 𝕄),
    I k ⊢ iprop((I (k + n) -∗ Q ⟨⟩) -∗ runs c (repeatFrom f n k) Q)
  | 0, k, _, Q => by
    iintro HI HQ
    iapply (runs_pure c (⟨⟩ : PUnit) Q)
    iapply HQ; iexact HI
  | n + 1, k, step, Q => by
    show _ ⊢ iprop(_ -∗ runs c (f k >>= fun _ => repeatFrom f n (k + 1)) Q)
    rw [runs_bind]
    iintro HI HQ
    iapply (step k (Nat.le_refl _) (by omega) _) $$ HI
    iintro HI
    iapply (runs_repeat c f I n (k + 1) (fun j hj hj' => step j (by omega) (by omega)) Q) $$ HI
    rw [show k + 1 + n = k + (n + 1) by omega]
    iexact HQ

/-! ## Copies on the device's own semaphores -/

/-- A copy started: the source piece lent at share `q`, the destination piece to come back at the source's value. -/
theorem copy_start (c : Dev nD) {sp sp' : Space} {s : Shape} {e : EltTy} {src : Memref sig .tc sp s e} {dst : Memref sig .tc sp' s e}
    {sem : DmaSem sig} {hsrc : src.view.WordExact} {hdst : dst.view.WordExact} {hsem : DmaTarget.Typed (nD := nD) sp (.dma sem) (.here (p := (.tc : Proc τ)) dst)}
    (hs : 0 < s.numel) {q : PosShare TreeShare} {X : s.Idx → Elt F e} (fs : Buf (Elt F) (src.view.loc (c : Thread nD τ)))
    (hX : src.view.read (Elt F) fs = X) (Q : PUnit → sProp 𝕄) :
    iprop((src.view.loc (c : Thread nD τ) ↦[src.view.set]{q} fs) ∗ anyOf c dst ∗ semVal ((c : Thread nD τ), .dma sem) 0)
      ⊢ iprop((Transfers.Flight EC (c : Thread nD τ) (.dma sem) () dst.view.dmaCredit
            iprop(whl c dst X ∗ (src.view.loc (c : Thread nD τ) ↦[src.view.set]{q} fs)) -∗ Q ⟨⟩)
          -∗ runs c (Prog.lift (.enqueueDma src (.here dst) (.dma sem) hsrc hdst hsem)) Q) := by
  unfold anyOf
  iintro ⟨Hs, ⟨%fd, Hd⟩, Hv⟩ HQ
  unfold runs Prog.lift
  iapply (Transfers.wp_dmaLocal EC 𝒱₀ (c : Thread nD τ) none (sm := .dma sem) (fs := fs) (Sd := dst.view.set) (fd := fd) () dst.view.dmaCredit rfl
    (View.dmaCredit_pos _ hs) (Finset.Subset.refl _)) $$ [Hs Hd Hv]
  · isplitl [Hs]; · iexact Hs
    isplitl [Hd] <;> iassumption
  iintro HF
  rw [wp_ret]; imodintro
  iapply HQ
  have hdel : (dst.view.loc (c : Thread nD τ) ↦[dst.view.set]{fullShare} (dst.view.write (Elt F) fd (ReadAs.same.apply (src.view.read (Elt F) fs)) Finset.univ) : sProp 𝕄)
      ⊢ whl c dst X := by
    unfold whl owns
    iintro H
    iexists (dst.view.write (Elt F) fd (ReadAs.same.apply (src.view.read (Elt F) fs)) Finset.univ)
    isplitr
    · ipureintro; exact (View.read_write_univ _ _).trans hX
    iexact H
  iapply (Transfers.Flight_mono EC (c : Thread nD τ) (sep_mono_left hdel)) $$ HF

/-- A copy awaited: what it was to deliver is there, the semaphore at zero again. -/
theorem copy_wait (c : Dev nD) {sp sp' : Space} {s s' : Shape} {e e' : EltTy} {srcw : Memref sig .tc sp' s' e'} {dstw : Memref sig .tc sp s e}
    {sem : DmaSem sig} {hsrc : srcw.view.WordExact} {hdst : dstw.view.WordExact} {D : sProp 𝕄} {O : CellTallies nD τ sig Unit}
    (N : ℕ) (hN : dstw.view.dmaCredit = N) (Q : PUnit → sProp 𝕄) :
    iprop(Transfers.Flight EC (c : Thread nD τ) (.dma sem) () N D ∗ owe c O ∗ MayWait (c : Thread nD τ) (.dma sem) () O)
      ⊢ iprop((iprop(D ∗ semVal ((c : Thread nD τ), .dma sem) 0 ∗ owe c O) -∗ Q ⟨⟩)
          -∗ runs (F := F) c (Prog.lift (.waitDma2 sem srcw dstw hsrc hdst)) Q) := by
  unfold owe
  iintro ⟨HF, ⟨%W, HO⟩, Hm⟩ HQ
  unfold runs Prog.lift
  iapply (Transfers.wp_waitLocalO EC 𝒱₀ (c : Thread nD τ) none () hN (D := D) (O := O) (W := W)) $$ [HF HO Hm]
  · isplitl [HF]; · iexact HF
    isplitl [HO] <;> iassumption
  iintro ⟨HD, Hv, HO⟩
  rw [wp_ret]; imodintro
  iapply HQ
  isplitl [HD]; · iexact HD
  isplitl [Hv]; · iexact Hv
  iexists _; iexact HO

/-! ## Loads and stores -/

/-- A load of a piece: what comes, squeezed, is the piece's value. -/
theorem piece_load (c : Dev nD) {cs : CoreSpace} {s s' : Shape} {e : EltTy} {m : Memref sig .tc cs s e} {r : Rect s}
    {hr : ∀ a, r.stride a = 1} (hq : r.shape.Squeezes s') (hc : r.shape.ShapeCasts s') {hl : m.view.LoadsAt r.toLoadRect}
    {q : PosShare TreeShare} {X : s'.Idx → Elt F e} (Q : (r.toLoadRect.shape.Idx → Elt F e) → sProp 𝕄) :
    (owns (c : Thread nD τ) ((m.slice r hr).squeeze s' hq) q X : sProp 𝕄)
      ⊢ iprop((∀ w, ⌜shapeCast s' w hc = X⌝ -∗ owns (c : Thread nD τ) ((m.slice r hr).squeeze s' hq) q X -∗ Q w)
          -∗ runs c (Prog.lift (.load m r.toLoadRect hl)) Q) := by
  unfold owns runs Prog.lift
  iintro ⟨%f, %hf, Hm⟩ HQ
  have hset : ((m.slice r hr).squeeze s' hq).view.set = (m.access r).set := View.set_reshape _ _
  rw [hset]
  iapply (wp_load_rect 𝒱₀ (c : Thread nD τ) none Set.univ (m := m) (r := r) (Finset.Subset.refl _)) $$ Hm
  iintro Hm
  rw [wp_ret]; imodintro
  iapply HQ $$ %((m.access r).read (Elt F) f) %hf
  iexists f
  isplitr; · ipureintro; exact hf
  iexact Hm

/-- A load of a piece whose value nothing depends on. -/
theorem piece_load_any (c : Dev nD) {cs : CoreSpace} {s s' : Shape} {e : EltTy} {m : Memref sig .tc cs s e} {r : Rect s}
    {hr : ∀ a, r.stride a = 1} (hq : r.shape.Squeezes s') {hl : m.view.LoadsAt r.toLoadRect}
    (Q : (r.toLoadRect.shape.Idx → Elt F e) → sProp 𝕄) :
    (anyOf c ((m.slice r hr).squeeze s' hq) : sProp 𝕄)
      ⊢ iprop((∀ w, anyOf c ((m.slice r hr).squeeze s' hq) -∗ Q w) -∗ runs c (Prog.lift (.load m r.toLoadRect hl)) Q) := by
  unfold anyOf runs Prog.lift
  iintro ⟨%f, Hm⟩ HQ
  have hset : ((m.slice r hr).squeeze s' hq).view.set = (m.access r).set := View.set_reshape _ _
  rw [hset]
  iapply (wp_load_rect 𝒱₀ (c : Thread nD τ) none Set.univ (m := m) (r := r) (Finset.Subset.refl _)) $$ Hm
  iintro Hm
  rw [wp_ret]; imodintro
  iapply HQ $$ %((m.access r).read (Elt F) f)
  iexists f
  iexact Hm

/-- A store to a piece of a value given a unit axis: the piece then holds the value. -/
theorem piece_store (c : Dev nD) {cs : CoreSpace} {s s' : Shape} {e : EltTy} {m : Memref sig .tc cs s e} {r : Rect s}
    {hr : ∀ a, r.stride a = 1} (hq : r.shape.Squeezes s') (hc : s'.ShapeCasts r.shape) (v : s'.Idx → Elt F e)
    {hx : (m.access r).Stores Finset.univ} {hm : (Finset.univ : Finset r.shape.Idx) = Finset.univ ∨ ∀ a, r.stride a = 1} (Q : PUnit → sProp 𝕄) :
    (anyOf c ((m.slice r hr).squeeze s' hq) : sProp 𝕄)
      ⊢ iprop((whl c ((m.slice r hr).squeeze s' hq) v -∗ Q ⟨⟩)
          -∗ runs c (Prog.lift (.store m r (shapeCast r.shape v hc) Finset.univ hx hm)) Q) := by
  unfold anyOf runs Prog.lift whl owns
  iintro ⟨%f, Hm⟩ HQ
  have hset : ((m.slice r hr).squeeze s' hq).view.set = (m.access r).set := View.set_reshape _ _
  rw [hset]
  iapply (wp_store 𝒱₀ (c : Thread nD τ) none Set.univ (m := m) (r := r) (Mk := Finset.univ) (S := (m.access r).set) (f := f) (Finset.Subset.refl _)) $$ Hm
  iintro Hm
  rw [wp_ret]; imodintro
  iapply HQ
  iexists _
  isplitr
  rotate_left
  · iexact Hm
  ipureintro
  have h1 : (m.access r).read (Elt F) ((m.access r).write (Elt F) f (shapeCast r.shape v hc) Finset.univ) = shapeCast r.shape v hc :=
    View.read_write_univ _ _
  have h2 : ((m.slice r hr).squeeze s' hq).view.read (Elt F) ((m.access r).write (Elt F) f (shapeCast r.shape v hc) Finset.univ)
      = shapeCast s' ((m.access r).read (Elt F) ((m.access r).write (Elt F) f (shapeCast r.shape v hc) Finset.univ)) hq.numel_eq := rfl
  rw [h2, h1, shapeCast_shapeCast]

theorem zero2 : (![0, 0] : Fin 2 → Nat) = fun _ => 0 := funext fun a => by fin_cases a <;> rfl

/-- A load of the buffer holding `x`; of the one a received piece is copied into. -/
theorem x_load (c : Dev nD) {q : PosShare TreeShare} {X : S1024x4096.Idx → Elt F .f32} (Q : (S1024x4096.Idx → Elt F .f32) → sProp 𝕄) :
    (owns (c : Thread nD τ) xB q X : sProp 𝕄) ⊢ iprop((owns (c : Thread nD τ) xB q X -∗ Q X) -∗ runs c xLoad Q) := by
  unfold owns runs xLoad Prog.lift
  iintro ⟨%f, %hf, Hm⟩ HQ
  iapply (wp_load 𝒱₀ (c : Thread nD τ) none Set.univ (m := xB) (r := xR.toLoadRect) (S := xB.view.set) (f := f) (by
    rw [View.set_whole]; exact Finset.subset_univ _)) $$ Hm
  iintro Hm
  rw [wp_ret, show xB.view.readAt (Elt F) xR.toLoadRect f = X from (Memref.readAt_unit_zero (Elt F) cc0_scratch0 zero2 _ f).trans hf]
  imodintro
  iapply HQ
  iexists f
  isplitr; · ipureintro; exact hf
  iexact Hm

theorem p_load (c : Dev nD) {q : PosShare TreeShare} {X : S1024x512.Idx → Elt F .bf16} (Q : (S1024x512.Idx → Elt F .bf16) → sProp 𝕄) :
    (owns (c : Thread nD τ) pB q X : sProp 𝕄) ⊢ iprop((owns (c : Thread nD τ) pB q X -∗ Q X) -∗ runs c pLoad Q) := by
  unfold owns runs pLoad Prog.lift
  iintro ⟨%f, %hf, Hm⟩ HQ
  iapply (wp_load 𝒱₀ (c : Thread nD τ) none Set.univ (m := pB) (r := pR.toLoadRect) (S := pB.view.set) (f := f) (by
    rw [View.set_whole]; exact Finset.subset_univ _)) $$ Hm
  iintro Hm
  rw [wp_ret, show pB.view.readAt (Elt F) pR.toLoadRect f = X from (Memref.readAt_unit_zero (Elt F) cc0_scratch3 zero2 _ f).trans hf]
  imodintro
  iapply HQ
  iexists f
  isplitr; · ipureintro; exact hf
  iexact Hm

end Cert.Kern

end
-- ==== Proof.Protocol.lean ====
/-
# 01_k — the protocol between the devices

Every device sends each other device one slab (four pieces) of its product. Slab `j` goes `dist j` places on in the ring.
A device's cells that others touch, or that its own sends complete on:

  * its BARRIER cell — three duties of one unit, duty `j` paid by the device slab `j` is sent to; it hands over that
    device's landing room for the slab;
  * its RECEIVE cell `i` — one duty of a piece's credit, paid by the send of piece `i` to this device; it hands over the
    landed piece, at its value;
  * its SEND cell `i` — one duty of a piece's credit, paid by the device's own send `i`; it hands the sent piece back.

Nothing else is shared: the copies of the operands and of the result complete on semaphores only the device itself waits
for. Waits go up in level: own copies and sends (0), the barrier (1), receives (2); a device at its barrier wait still
owes its sends only, and none at a receive wait.
-/
module

public import proofs.«01_k».proof.Proof.Ops

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

/-- The device `j` places before `c`. -/
def bwd (c : Dev nD) (j : Nat) : Dev nD := ⟨(c.val + (4 - j)) % 4, Nat.mod_lt _ (by decide)⟩

/-- The device piece `i` goes to, and the one it comes from. -/
abbrev peer (c : Dev nD) (i : Fin 12) : Dev nD := fwd c (dist (i.val / 4))
abbrev origin (c : Dev nD) (i : Fin 12) : Dev nD := bwd c (dist (i.val / 4))

theorem fwd_bwd : ∀ (c : Dev nD) (j : Fin 3), fwd (bwd c (dist j.val)) (dist j.val) = c := by decide
theorem bwd_fwd : ∀ (c : Dev nD) (j : Fin 3), bwd (fwd c (dist j.val)) (dist j.val) = c := by decide
/-- The devices, each taken to the one slab `j` of it goes to. -/
def along (j : Fin 3) : Dev nD ≃ Dev nD := ⟨fun c => fwd c (dist j.val), fun c => bwd c (dist j.val), fun c => bwd_fwd c j, fun c => fwd_bwd c j⟩

theorem origin_peer (c : Dev nD) (i : Fin 12) : origin (peer c i) i = c := bwd_fwd c ⟨i.val / 4, by omega⟩
theorem peer_origin (c : Dev nD) (i : Fin 12) : peer (origin c i) i = c := fwd_bwd c ⟨i.val / 4, by omega⟩

theorem dev1_eq : ∀ c : Dev nD, (⟨k0_dev1 c, k0_dev1_lt c⟩ : Dev nD) = bwd c (dist 2) := by decide +kernel
theorem dev2_eq : ∀ c : Dev nD, (⟨k0_dev2 c, k0_dev2_lt c⟩ : Dev nD) = bwd c (dist 0) := by decide +kernel
theorem dev3_eq : ∀ c : Dev nD, (⟨k0_dev3 c, k0_dev3_lt c⟩ : Dev nD) = bwd c (dist 1) := by decide +kernel
theorem sendDev_peer (c : Dev nD) (i : Fin 12) : sendDev c (i.val / 4) = peer c i := sendDev_eq c ⟨i.val / 4, by omega⟩

/-! ## The cells -/

/-- The protocol's cells of a device: its barrier, its sends, its receives. -/
abbrev CK : Type := Unit ⊕ (Fin 12 ⊕ Fin 12)

abbrev csem : CK → SemLoc sig
  | .inl _ => .reg barS | .inr (.inl i) => .dma (sS i) | .inr (.inr i) => .dma (rS i)
/-- Which of them a semaphore is. -/
def cls : SemLoc sig → Option CK
  | .reg _ => some (.inl ())
  | .dma s => if s.val < 7 then none else if s.val < 19 then some (.inr (.inl (nth 11 (s.val - 7)))) else some (.inr (.inr (nth 11 (s.val - 19))))
theorem cls_csem (k : CK) : cls (csem k) = some k := by
  rcases k with ⟨⟩ | i | i
  · rfl
  · revert i; decide
  · revert i; decide

abbrev barCell (c : Dev nD) : GSem nD τ sig := ((c : Thread nD τ), csem (.inl ()))
abbrev sendCell (c : Dev nD) (i : Fin 12) : GSem nD τ sig := ((c : Thread nD τ), csem (.inr (.inl i)))
abbrev recvCell (c : Dev nD) (i : Fin 12) : GSem nD τ sig := ((c : Thread nD τ), csem (.inr (.inr i)))
abbrev kcell (ck : Dev nD × CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : some k = some k' := by rw [← cls_csem k, ← cls_csem k']; exact congrArg (fun g : GSem nD τ sig => cls g.2) h
  rw [h1, Option.some.inj h2]

/-- A piece's credit. -/
abbrev N : ℕ := (rPiece 0).view.dmaCredit
theorem N_pos : 0 < N := View.dmaCredit_pos _ (by decide)

/-! ## The values -/

variable (m : (ℓ : Loc nD τ sig) → Buf (Elt F) ℓ)

/-- Device `c`'s rows of `x`; the weight columns of its step `s`. -/
def xv (c : Dev nD) : S1024x4096.Idx → Elt F .f32 := xH.view.read (Elt F) (m ((c : Thread nD τ).loc main_arg0))
def wv (c : Dev nD) (s : Fin 16) : S4096x512.Idx → Elt F .f32 := (wCol c s).view.read (Elt F) (m ((c : Thread nD τ).loc main_arg1))
/-- What device `c` sends as piece `i`; what it receives as piece `i`. -/
def sent (c : Dev nD) (i : Fin 12) : S1024x512.Idx → Elt F .bf16 := mmB (xv m c) (wv m c ⟨i.val, by omega⟩)
def landed (c : Dev nD) (i : Fin 12) : S1024x512.Idx → Elt F .bf16 := sent m (origin c i) i

/-! ## The schedule -/

/-- The landing room for slab `j` of device `c`'s, on the device it goes to. -/
def barPay (c : Dev nD) (j : Fin 3) : sProp 𝕄 :=
  bigSep (Finset.Ico (4 * j.val) (4 * j.val + 4)) fun k => anyOf (fwd c (dist j.val)) (rPiece (nth 11 k))
def sendPay (c : Dev nD) (i : Fin 12) : sProp 𝕄 := anyOf c (sPiece i)
def recvPay (c : Dev nD) (i : Fin 12) : sProp 𝕄 := whl c (rPiece i) (landed m c i)

def dutiesOf : Option CK → Finset (Fin 3)
  | some (.inl _) => Finset.univ | some (.inr _) => {0} | none => ∅
def amountOf : Option CK → ℕ
  | some (.inl _) => 1 | _ => N
def payOf (c : Dev nD) (d : Fin 3) : Option CK → sProp 𝕄
  | some (.inl _) => barPay c d | some (.inr (.inl i)) => sendPay c i | some (.inr (.inr i)) => recvPay m c i | none => iprop(emp)

/-- One round: the duties, amounts and hand-overs above. -/
def Rd : Rounds.Schedule (GSem nD τ sig) (Fin 3) 𝕄 where
  duties g r := if r = 0 ∧ g.1.2 = .tc then dutiesOf (cls g.2) else ∅
  unitless _ := False
  amount g _ _ := amountOf (cls g.2)
  payload g _ d := payOf m g.1.1 d (cls g.2)
  amount_pos g _ _ _ := by
    rcases cls g.2 with _ | _ | _
    · exact N_pos
    · exact Nat.one_pos
    · exact N_pos

instance Rd_storable (g : GSem nD τ sig) (r : ℕ) (d : Fin 3) : BI.Storable (upEmb : UEmb _ 𝕄) ((Rd (F := F) m).payload g r d) := by
  show BI.Storable upEmb (payOf m g.1.1 d (cls g.2))
  rcases cls g.2 with _ | _ | _ | _
  · unfold payOf; infer_instance
  · unfold payOf barPay; infer_instance
  · unfold payOf sendPay; infer_instance
  · unfold payOf recvPay; infer_instance

theorem duties_at (c : Dev nD) (k : CK) : (Rd (F := F) m).duties (kcell (c, k)) 0 = dutiesOf (some k) := by
  dsimp only [Rd]
  rw [if_pos ⟨rfl, rfl⟩, cls_csem]
theorem duties_later (g : GSem nD τ sig) : ∀ r, 1 ≤ r → (Rd (F := F) m).duties g r = ∅ := fun r hr => if_neg fun h => by omega
theorem amount_at (c : Dev nD) (k : CK) (r : ℕ) (d : Fin 3) : (Rd (F := F) m).amount (kcell (c, k)) r d = amountOf (some k) := by
  show amountOf (cls (csem k)) = _
  rw [cls_csem]
theorem payload_at (c : Dev nD) (k : CK) (r : ℕ) (d : Fin 3) : (Rd (F := F) m).payload (kcell (c, k)) r d = payOf m c d (some k) := by
  show payOf m c d (cls (csem k)) = _
  rw [cls_csem]

theorem expect_bar (c : Dev nD) : (Rd (F := F) m).expect (barCell c) 0 = 3 := by
  unfold Schedule.expect Schedule.amountOf
  rw [duties_at m c (.inl ()), Finset.sum_congr rfl fun d _ => amount_at m c (.inl ()) 0 d]
  decide
theorem expect_xfer (c : Dev nD) (k : Fin 12 ⊕ Fin 12) : (Rd (F := F) m).expect (kcell (c, .inr k)) 0 = N := by
  unfold Schedule.expect Schedule.amountOf
  rw [duties_at, Finset.sum_congr rfl fun d _ => amount_at m c (.inr k) 0 d]
  exact Finset.sum_singleton _ _

/-- All a barrier cell's round hands over: the landing room for every piece, on the device the piece goes to. -/
theorem rest_bar (c : Dev nD) :
    bigSep ((Rd (F := F) m).duties (barCell c) 0 \ ∅) (fun d => (Rd (F := F) m).payload (barCell c) 0 d)
      ⊢ (bigSep (Finset.Ico 0 12) fun k => anyOf (peer c (nth 11 k)) (rPiece (nth 11 k)) : sProp 𝕄) := by
  have h (j : Fin 3) : (Rd (F := F) m).payload (barCell c) 0 j
      = bigSep (Finset.Ico (4 * j.val) (4 * j.val + 4)) fun k => (anyOf (peer c (nth 11 k)) (rPiece (nth 11 k)) : sProp 𝕄) := by
    rw [payload_at m c (.inl ())]
    show barPay c j = _
    unfold barPay
    refine bigSep_congr fun k hk => ?_
    have hk := Finset.mem_Ico.mp hk
    have : (nth 11 k).val / 4 = j.val := by
      show k % 12 / 4 = j.val
      omega
    rw [peer, this]
  rw [Finset.sdiff_empty, duties_at m c (.inl ())]
  show bigSep Finset.univ _ ⊢ _
  rw [bigSep_univ_eq_bigSepL [0, 1, 2] (by decide) (by decide), bigSepL_cons_cons, bigSepL_cons_cons, bigSepL_singleton, h, h, h,
    bigSep_runs (a := 0) (b := 8) (d := 12) (by decide) (by decide), bigSep_runs (a := 0) (b := 4) (d := 8) (by decide) (by decide)]
  show iprop(_ ∗ _ ∗ _) ⊢ _
  iintro ⟨H0, H1, H2⟩
  isplitl [H0 H1]
  · isplitl [H0]; · iexact H0
    iexact H1
  iexact H2

theorem rest_xfer (c : Dev nD) (k : Fin 12 ⊕ Fin 12) :
    bigSep ((Rd (F := F) m).duties (kcell (c, .inr k)) 0 \ ∅) (fun d => (Rd (F := F) m).payload (kcell (c, .inr k)) 0 d) = payOf m c 0 (some (.inr k)) := by
  rw [Finset.sdiff_empty, duties_at]
  show bigSep {0} _ = _
  rw [bigSep_singleton, payload_at]

/-! ## Levels and debts -/

def L (g : GSem nD τ sig) : Finset Unit := if g.1.2 = .tc then {()} else ∅
def lvOf : Option CK → ℕ
  | some (.inl _) => 1 | some (.inr (.inr _)) => 2 | _ => 0
def lv (g : GSem nD τ sig) (_ : Unit) : ℕ := lvOf (cls g.2)
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 12) : lv (recvCell c i) () = 2 := congrArg lvOf (cls_csem (.inr (.inr i)))
theorem lv_bar (c : Dev nD) : lv (barCell c) () = 1 := congrArg lvOf (cls_csem (.inl ()))

/-- What the sends of device `c` from number `n` on owe. -/
def pend (c : Dev nD) (n : ℕ) : CellTallies nD τ sig Unit :=
  ∑ k ∈ Finset.Ico n 12, tallyAt (recvCell (peer c (nth 11 k)) (nth 11 k)) () N
/-- What device `c` owes at launch: its sends and, before them, the three signals. -/
def O₂ (c : Dev nD) : CellTallies nD τ sig Unit := pend c 0 + tallyAt (barCell (bwd c (dist 1))) () 1
def O₁ (c : Dev nD) : CellTallies nD τ sig Unit := O₂ c + tallyAt (barCell (bwd c (dist 0))) () 1
def O₀ (c : Dev nD) : CellTallies nD τ sig Unit := O₁ c + tallyAt (barCell (bwd c (dist 2))) () 1

theorem pend_step (c : Dev nD) {n : ℕ} (h : n < 12) : pend c n = pend c (n + 1) + tallyAt (recvCell (peer c (nth 11 n)) (nth 11 n)) () N := by
  unfold pend
  rw [show Finset.Ico n 12 = insert n (Finset.Ico (n + 1) 12) by ext x; simp only [Finset.mem_Ico, Finset.mem_insert]; omega,
    Finset.sum_insert (by rw [Finset.mem_Ico]; omega), add_comm]
theorem pend_done (c : Dev nD) : pend c 12 = 0 := by unfold pend; rw [Finset.Ico_self, Finset.sum_empty]

theorem pend_pos {c : Dev nD} {n : ℕ} : ∀ {g : GSem nD τ sig} {u : Unit}, 0 < pend c n g u → ∃ d i, g = recvCell d i := by
  unfold pend
  refine Finset.sum_induction _ (fun T : CellTallies nD τ sig Unit => ∀ {g : GSem nD τ sig} {u : Unit}, 0 < T g u → ∃ d i, g = recvCell d i) ?_ ?_ ?_
  · intro A B hA hB g u h
    rw [Pi.add_apply, Finsupp.add_apply] at h
    rcases Nat.eq_zero_or_pos (A g u) with h0 | h0
    · rw [h0, Nat.zero_add] at h; exact hB h
    · exact hA h0
  · intro g u h; exact absurd h (Nat.lt_irrefl 0)
  · intro k _ g u h
    rw [tallyAt_apply] at h
    by_cases hg : g = recvCell (peer c (nth 11 k)) (nth 11 k) ∧ u = ()
    · exact ⟨_, _, hg.1⟩
    · rw [if_neg hg] at h; exact absurd h (Nat.lt_irrefl 0)

theorem mayWait_low (c : Dev nD) (sm : SemLoc sig) (l : ℕ) (hl : lv ((c : Thread nD τ), sm) () ≤ l) (hl2 : l < 2) (n : ℕ) :
    (levAts L lv : sProp 𝕄) ⊢ MayWait (c : Thread nD τ) sm () (pend c n) :=
  MayOwe.of_cut (L := L) (lev := lv) l (fun p hp => by rw [Finset.mem_singleton.mp hp, L_tc]; exact Finset.mem_singleton_self _)
    (fun g u hg => by obtain ⟨d, i, rfl⟩ := pend_pos hg; exact Finset.mem_singleton_self _)
    (fun p hp => by rw [Finset.mem_singleton.mp hp]; exact hl)
    (fun g u hg => by obtain ⟨d, i, rfl⟩ := pend_pos hg; rw [lv_recv]; exact hl2)

end Cert.Kern

end
-- ==== Proof.Steps.lean ====
/-
# 01_k — the steps of the program

Each step of `Prog`'s sequence, once, at any device and any number: what the device holds before it and after it.
-/
module

public import proofs.«01_k».proof.Proof.Protocol

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records every device has: the cells' invariants, and that each has reached its round; the levels -/

def records (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

instance records_persistent (K : Dev nD × CK → ℕ) : BI.Persistent (records m K) := by unfold records; infer_instance

variable (K : Dev nD × CK → ℕ)

theorem inv_at (ck : Dev nD × CK) : records m K ⊢ (cellInv ER (Rd m) (K ck) (kcell ck) : sProp 𝕄) := by
  have h : (bigSep Finset.univ fun ck : Dev nD × CK => cellInv ER (Rd m) (K ck) (kcell ck)) ⊢ (cellInv ER (Rd m) (K ck) (kcell ck) : sProp 𝕄) :=
    bigSep_elim (Finset.mem_univ ck)
  unfold records
  iintro ⟨H, -, -⟩
  iapply h $$ H
theorem reached_at (ck : Dev nD × CK) : records m K ⊢ (reached ER (kcell ck) 0 : sProp 𝕄) := by
  have h : (bigSep Finset.univ fun ck : Dev nD × CK => reached ER (kcell ck) 0) ⊢ (reached ER (kcell ck) 0 : sProp 𝕄) :=
    bigSep_elim (Finset.mem_univ ck)
  unfold records
  iintro ⟨-, H, -⟩
  iapply h $$ H
theorem lev_at : records m K ⊢ (levAts L lv : sProp 𝕄) := by
  unfold records
  iintro ⟨-, -, H⟩
  iexact H

/-! ## The weight columns, through the three slots -/

/-- The share of `w` slot `k`'s copies borrow from. -/
def shareOf (k : Fin 3) : PosShare TreeShare := match k with
  | 0 => fullShare.left | 1 => fullShare.right.left | 2 => fullShare.right.right

def wAll (c : Dev nD) (k : Fin 3) : sProp 𝕄 :=
  ((c : Thread nD τ).loc main_arg1) ↦[Finset.univ]{shareOf k} m ((c : Thread nD τ).loc main_arg1)
/-- The columns of step `s` out of that share, and the rest of it. -/
def wPart (c : Dev nD) (s : Fin 16) : sProp 𝕄 :=
  (wCol c s).view.loc (c : Thread nD τ) ↦[(wCol c s).view.set]{shareOf (slotOf s)} m ((c : Thread nD τ).loc main_arg1)
def wRest (c : Dev nD) (s : Fin 16) : sProp 𝕄 :=
  ((c : Thread nD τ).loc main_arg1) ↦[Finset.univ \ (wCol c s).view.set]{shareOf (slotOf s)} m ((c : Thread nD τ).loc main_arg1)

theorem wAll_split (c : Dev nD) (s : Fin 16) : (wAll m c (slotOf s) : sProp 𝕄) ⊣⊢ iprop(wPart m c s ∗ wRest m c s) :=
  pointsTo_split_subset (Finset.subset_univ _)

/-- Slot `k` at rest: its share, the slot, its semaphore at zero. -/
def wFree (c : Dev nD) (k : Fin 3) : sProp 𝕄 := iprop(wAll m c k ∗ anyOf c (wSlot k) ∗ semVal ((c : Thread nD τ), .dma (wS k)) 0)
/-- The copy of step `s`'s columns under way. -/
def wFly (c : Dev nD) (s : Fin 16) : sProp 𝕄 :=
  iprop(Transfers.Flight EC (c : Thread nD τ) (.dma (wS (slotOf s))) () (wSlot (slotOf s)).view.dmaCredit
      iprop(whl c (wSlot (slotOf s)) (wv m c s) ∗ wPart m c s) ∗ wRest m c s)

theorem wStart_spec (c : Dev nD) (s : Fin 16) (Q : PUnit → sProp 𝕄) :
    wFree m c (slotOf s) ⊢ iprop((wFly m c s -∗ Q ⟨⟩) -∗ runs c (wStart c s) Q) := by
  unfold wFree wFly
  iintro ⟨Hw, Hs, Hv⟩ HQ
  ihave Hp := (wAll_split m c s).1 $$ Hw
  icases Hp with ⟨Hp, Hr⟩
  unfold wStart
  iapply (copy_start c (src := wCol c s) (dst := wSlot (slotOf s)) (by decide) (m ((c : Thread nD τ).loc main_arg1)) rfl Q) $$ [Hp Hs Hv]
  · isplitl [Hp]; · unfold wPart; iexact Hp
    isplitl [Hs] <;> iassumption
  iintro HF
  iapply HQ
  isplitl [HF]; · unfold wPart; iexact HF
  iexact Hr

theorem wWait_spec (c : Dev nD) (s : Fin 16) (O : CellTallies nD τ sig Unit) (Q : PUnit → sProp 𝕄) :
    iprop(wFly m c s ∗ owe c O ∗ MayWait (c : Thread nD τ) (.dma (wS (slotOf s))) () O)
      ⊢ iprop(((whl c (wSlot (slotOf s)) (wv m c s) ∗ wAll m c (slotOf s) ∗ semVal ((c : Thread nD τ), .dma (wS (slotOf s))) 0 ∗ owe c O) -∗ Q ⟨⟩)
          -∗ runs c (wWait c s) Q) := by
  unfold wFly wWait
  iintro ⟨⟨HF, Hr⟩, HO, Hm⟩ HQ
  iapply (copy_wait c _ rfl Q) $$ [HF HO Hm]
  · isplitl [HF]; · iexact HF
    isplitl [HO] <;> iassumption
  iintro ⟨⟨Hs, Hp⟩, Hv, HO⟩
  iapply HQ
  isplitl [Hs]; · iexact Hs
  isplitl [Hp Hr]
  · iapply (wAll_split m c s).2
    isplitl [Hp] <;> iassumption
  isplitl [Hv] <;> iassumption

/-- A load of slot `k`: the columns it holds. -/
theorem wLoad_spec (c : Dev nD) (k : Fin 3) (X : S4096x512.Idx → Elt F .f32) (Q : Vec F S1x4096x512 .f32 → sProp 𝕄) :
    (whl c (wSlot k) X : sProp 𝕄) ⊢ iprop((∀ w, ⌜wVal w = X⌝ -∗ whl c (wSlot k) X -∗ Q w) -∗ runs c (wLoad k) Q) :=
  piece_load (r := slotR k) (hr := fun _ => rfl) c squeezes_S1x4096x512_S4096x512 shapeCasts_S1x4096x512_S4096x512 Q

/-! ## The send steps -/

/-- A piece sent: its device's landing room and the two duties spent, the room's holder paid. -/
theorem send_to (c n : Dev nD) (i : Fin 12) (hn : n = peer c i) (O : CellTallies nD τ sig Unit)
    {hsrc : (sPiece i).view.WordExact} {hdst : (rPiece i).view.WordExact}
    {hsem : DmaTarget.Typed .vmem (.dma (rS i)) (.remote (p := (.tc : Proc τ)) (Dev.tc n : Thread nD τ) (rPiece i) (.dma (sS i)))}
    (Q : PUnit → sProp 𝕄) :
    iprop(records m K ∗ whl c (sPiece i) (sent m c i) ∗ anyOf (peer c i) (rPiece i)
        ∗ owe c (O + tallyAt (recvCell (peer c i) i) () N) ∗ dutyTok ER (sendCell c i) 0 0 ∗ dutyTok ER (recvCell (peer c i) i) 0 0)
      ⊢ iprop(((cred (tallyAt (sendCell c i) () N) ∗ owe c O) -∗ Q ⟨⟩)
          -∗ runs c (Prog.lift (.enqueueDma (sPiece i) (.remote (Dev.tc n : Thread nD τ) (rPiece i) (.dma (sS i))) (.dma (rS i)) hsrc hdst hsem)) Q) := by
  subst hn
  unfold whl owns anyOf owe runs Prog.lift
  iintro ⟨#HR, ⟨%fs, %hfs, Hs⟩, ⟨%fd, Hd⟩, ⟨%W, HO⟩, Ht1, Ht2⟩ HQ
  iapply (Rounds.wp_send_pointsTo 𝒱₀ ER (Rd m) (c : Thread nD τ) none (κ₁ := K (c, .inr (.inl i))) (κ₂ := K (peer c i, .inr (.inr i)))
    (r₁ := 0) (r₂ := 0) (d₁ := 0) (d₂ := 0) (fs := fs) (fd := fd) (W := W)
    (by rw [show ((c : Thread nD τ), SemLoc.dma (sS i)) = kcell (c, .inr (.inl i)) from rfl, duties_at]; exact Finset.mem_singleton_self _)
    (by rw [show (((peer c i : Dev nD) : Thread nD τ), SemLoc.dma (rS i)) = kcell (peer c i, .inr (.inr i)) from rfl, duties_at]; exact Finset.mem_singleton_self _)
    () () N rfl (amount_at m c (.inr (.inl i)) 0 0) (amount_at m (peer c i) (.inr (.inr i)) 0 0) O rfl
    (by
      rw [show ((c : Thread nD τ), SemLoc.dma (sS i)) = kcell (c, .inr (.inl i)) from rfl, payload_at]
      show _ ⊢ sendPay c i
      unfold sendPay anyOf
      iintro H; iexists fs; iexact H)
    (by
      rw [show (((peer c i : Dev nD) : Thread nD τ), SemLoc.dma (rS i)) = kcell (peer c i, .inr (.inr i)) from rfl, payload_at]
      show _ ⊢ recvPay m (peer c i) i
      unfold recvPay landed whl owns
      rw [origin_peer]
      iintro H; iexists _
      isplitr
      rotate_left
      · iexact H
      · ipureintro; exact (View.read_write_univ _ _).trans hfs)) $$ [Hs Hd HO Ht1 Ht2]
  · isplitr; · iapply (inv_at m K (c, .inr (.inl i))); iexact HR
    isplitr; · iapply (inv_at m K (peer c i, .inr (.inr i))); iexact HR
    isplitl [Hs]; · iexact Hs
    isplitl [Hd]; · iexact Hd
    isplitl [HO]; · iexact HO
    isplitl [Ht1]; · iexact Ht1
    isplitr; · iapply (reached_at m K (c, .inr (.inl i))); iexact HR
    isplitl [Ht2]; · iexact Ht2
    iapply (reached_at m K (peer c i, .inr (.inr i))); iexact HR
  iintro ⟨Hc, HO⟩
  rw [wp_ret]; imodintro
  iapply HQ
  isplitl [Hc]; · iexact Hc
  iexists W; iexact HO

/-- What step `i` uses up: its piece of the send buffer, the landing room, the two duties it pays. -/
def sendIn (c : Dev nD) (i : Fin 12) : sProp 𝕄 :=
  iprop(anyOf c (sPiece i) ∗ anyOf (peer c i) (rPiece i) ∗ dutyTok ER (sendCell c i) 0 0 ∗ dutyTok ER (recvCell (peer c i) i) 0 0)

/-- Before send step `n`: three weight copies under way, the steps to come with what they use, the credits of the sends made. -/
def sendSt (c : Dev nD) (n : ℕ) : sProp 𝕄 :=
  iprop(records m K ∗ whl c xB (xv m c) ∗ (wFly m c (nth 15 n) ∗ wFly m c (nth 15 (n + 1)) ∗ wFly m c (nth 15 (n + 2)))
    ∗ (bigSep (Finset.Ico n 12) fun k => sendIn c (nth 11 k)) ∗ (bigSep (Finset.Ico 0 n) fun k => cred (tallyAt (sendCell c (nth 11 k)) () N))
    ∗ owe c (pend c n))

theorem lv_wS (c : Dev nD) (k : Fin 3) : lv ((c : Thread nD τ), .dma (wS k)) () ≤ 0 := by
  revert k; show ∀ k : Fin 3, lvOf (cls (.dma (wS k))) ≤ 0; decide

theorem sendStep_spec (c : Dev nD) (n : ℕ) (hn : n < 12) (Q : PUnit → sProp 𝕄) :
    sendSt m K c n ⊢ iprop((sendSt m K c (n + 1) -∗ Q ⟨⟩) -∗ runs c (sendStep c (nth 11 n)) Q) := by
  unfold sendSt
  rw [bigSep_Ico_succ_bot hn, bigSep_Ico_succ_top (Nat.zero_le n)]
  have h0 : (⟨(nth 11 n).val, by omega⟩ : Fin 16) = nth 15 n := Fin.ext (by show n % 12 = n % 16; omega)
  have h3 : ∀ h, (⟨(nth 11 n).val + 3, h⟩ : Fin 16) = nth 15 (n + 1 + 2) := fun _ => Fin.ext (by show n % 12 + 3 = (n + 1 + 2) % 16; omega)
  have hs : slotOf (nth 15 n) = slotOf (nth 15 (n + 1 + 2)) := Fin.ext (by show n % 16 % 3 = (n + 1 + 2) % 16 % 3; omega)
  have hsent : sent m c (nth 11 n) = mmB (xv m c) (wv m c (nth 15 n)) := by unfold sent; rw [h0]
  iintro ⟨#HR, Hx, ⟨Hf0, Hf1, Hf2⟩, ⟨Hin, Hins⟩, Hcr, HO⟩ HQ
  unfold sendStep
  rw [h0, h3]
  simp only [runs_bind]
  iapply (wWait_spec m c (nth 15 n) (pend c n) _) $$ [Hf0 HO]
  · isplitl [Hf0]; · iexact Hf0
    isplitl [HO]; · iexact HO
    iapply (mayWait_low c _ 0 (lv_wS c _) (by decide) n)
    iapply (lev_at m K); iexact HR
  iintro ⟨Hs, Hw, Hv, HO⟩
  iapply (x_load c _) $$ Hx
  iintro Hx
  iapply (wLoad_spec c _ _ _) $$ Hs
  iintro %w %hw Hs
  unfold sendIn
  icases Hin with ⟨Hp, Hd, Ht1, Ht2⟩
  iapply (piece_load_any c squeezes_S1x1024x512_S1024x512 _) $$ Hp
  iintro %u Hp
  iapply (piece_store c squeezes_S1x1024x512_S1024x512 shapeCasts_S1024x512_S1x1024x512 _ _) $$ Hp
  iintro Hp
  ihave Hs' := (whl_anyOf c _ _) $$ Hs
  iapply (wStart_spec m c (nth 15 (n + 1 + 2)) _) $$ [Hw Hs' Hv]
  · rw [← hs]; unfold wFree
    isplitl [Hw]; · iexact Hw
    isplitl [Hs'] <;> iassumption
  iintro Hf3
  unfold sSend
  iapply (send_to m K c _ (nth 11 n) (sendDev_peer c _) (pend c (n + 1)) Q) $$ [Hp Hd HO Ht1 Ht2]
  · isplitr; · iexact HR
    isplitl [Hp]; · rw [hsent, ← hw]; iexact Hp
    isplitl [Hd]; · iexact Hd
    isplitl [HO]; · rw [← pend_step c hn]; iexact HO
    isplitl [Ht1] <;> iassumption
  iintro ⟨Hc, HO⟩
  iapply HQ
  isplitr; · iexact HR
  isplitl [Hx]; · iexact Hx
  isplitl [Hf1 Hf2 Hf3]
  · isplitl [Hf1]; · iexact Hf1
    isplitl [Hf2] <;> iassumption
  isplitl [Hins]; · iexact Hins
  isplitl [Hc Hcr]
  · isplitl [Hc] <;> iassumption
  iexact HO

end Cert.Kern

end
-- ==== Proof.Out.lean ====
/-
# 01_k — the meeting at the barrier, the receives, and the output

The rest of the steps: the three signals and the wait that open the sends; the waits on a piece's two cells; the output
stages, each filling one of two staging slots and copying it out while the copy before it runs.
-/
module

public import proofs.«01_k».proof.Proof.Steps

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The barrier -/

/-- Device `c`'s own landing room for the slab `j` coming to it. -/
def room (c : Dev nD) (j : Fin 3) : sProp 𝕄 := bigSep (Finset.Ico (4 * j.val) (4 * j.val + 4)) fun k => anyOf c (rPiece (nth 11 k))

theorem room_pay (c : Dev nD) (j : Fin 3) : (Rd m).payload (barCell (bwd c (dist j.val))) 0 j = (room c j : sProp 𝕄) := by
  rw [payload_at m _ (.inl ())]
  show barPay (bwd c (dist j.val)) j = _
  unfold barPay
  rw [fwd_bwd]; rfl

/-- A signal to the device slab `j` comes from: the room for the slab handed over to it. -/
theorem signal_to (c n : Dev nD) (j : Fin 3) (hn : n = bwd c (dist j.val)) (O : CellTallies nD τ sig Unit) (Q : PUnit → sProp 𝕄) :
    iprop(records m K ∗ owe c (O + tallyAt (barCell (bwd c (dist j.val))) () 1) ∗ dutyTok ER (barCell (bwd c (dist j.val))) 0 j ∗ room c j)
      ⊢ iprop((owe c O -∗ Q ⟨⟩) -∗ runs c (semSignalWord n barS 1#32) Q) := by
  subst hn
  unfold owe runs semSignalWord
  iintro ⟨#HR, ⟨%W, HO⟩, Ht, Hroom⟩ HQ
  iapply (Rounds.wp_signal 𝒱₀ ER (Rd m) (c : Thread nD τ) none (dst := ((bwd c (dist j.val) : Dev nD) : Thread nD τ)) (κ := K (bwd c (dist j.val), .inl ()))
      (r := 0) (d := j) (by rw [duties_at m _ (.inl ())]; exact Finset.mem_univ _) ((amount_at m (bwd c (dist j.val)) (.inl ()) 0 j).trans (by decide)) () O rfl)
    $$ [HO Ht Hroom]
  · isplitr; · iapply (inv_at m K (bwd c (dist j.val), .inl ())); iexact HR
    isplitl [HO]; · iexact HO
    isplitl [Ht]; · iexact Ht
    isplitl [Hroom]
    · iapply (Entails.of_eq (room_pay m c j).symm); iexact Hroom
    iapply (reached_at m K (bwd c (dist j.val), .inl ())); iexact HR
  iintro HO
  rw [wp_ret]; imodintro
  iapply HQ
  iexists W; iexact HO

/-- The wait for three: the landing rooms for all the pieces `c` sends; the barrier's counter is `c`'s again. -/
theorem barWait_spec (c : Dev nD) (Q : PUnit → sProp 𝕄) :
    iprop(records m K ∗ cred (tallyAt (barCell c) () 3) ∗ atPos ER (barCell c) 0 ∅ 0 ∗ owe c (pend c 0))
      ⊢ iprop((((bigSep (Finset.Ico 0 12) fun k => anyOf (peer c (nth 11 k)) (rPiece (nth 11 k))) ∗ semVal (barCell c) 0 ∗ owe c (pend c 0)) -∗ Q ⟨⟩)
          -∗ runs c barWait Q) := by
  unfold owe runs barWait semWaitWord
  iintro ⟨#HR, Hc, Hat, ⟨%W, HO⟩⟩ HQ
  iapply (Rounds.wp_wait_rest_token 𝒱₀ ER (Rd m) (c : Thread nD τ) none (κ := K (c, .inl ()))
      (wpE_semWait_eq 𝒱₀ (c : Thread nD τ) none Set.univ) (Set.mem_univ _) () (O := pend c 0) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr
    · iapply (mayWait_low c (.reg barS) 1 (le_of_eq (lv_bar c)) (by decide) 0)
      iapply (lev_at m K); iexact HR
    iexact Hat
  iintro ⟨HO, Hat, -, Hpay⟩
  ihave Hp := (rest_bar m c) $$ Hpay
  rw [wp_ret]
  imod (Rounds.cell_close ER (Rd m) (Set.mem_univ (K (c, .inl ()))) (fun h => h) (R := 0 + 1) (duties_later m (barCell c))) $$ [Hat] with Hv
  · isplitr; · iapply (inv_at m K (c, .inl ())); iexact HR
    iexact Hat
  imodintro
  iapply HQ
  isplitl [Hp]; · iexact Hp
  isplitl [Hv]; · iexact Hv
  iexists _; iexact HO

/-! ## The waits on a piece's cells -/

theorem sPiece_credit (i : Fin 12) : (sPiece i).view.dmaCredit = N := rfl
theorem rPiece_credit (i : Fin 12) : (rPiece i).view.dmaCredit = N := rfl

theorem xfer_wait (c : Dev nD) (k : Fin 12 ⊕ Fin 12) {sp sp' : Space} {s s' : Shape} {e e' : EltTy} {srcw : Memref sig .tc sp' s' e'}
    {dstw : Memref sig .tc sp s e} {sem : DmaSem sig} (hsem : ((c : Thread nD τ), SemLoc.dma sem) = kcell (c, .inr k)) (hN : dstw.view.dmaCredit = N)
    {hsrc : srcw.view.WordExact} {hdst : dstw.view.WordExact} (Q : PUnit → sProp 𝕄) :
    iprop(records m K ∗ cred (tallyAt (kcell (c, .inr k)) () N) ∗ atPos ER (kcell (c, .inr k)) 0 ∅ 0 ∗ owe c 0)
      ⊢ iprop(((payOf m c 0 (some (.inr k)) ∗ semVal (kcell (c, .inr k)) 0 ∗ owe c 0) -∗ Q ⟨⟩)
          -∗ runs c (Prog.lift (.waitDma2 sem srcw dstw hsrc hdst)) Q) := by
  have hinv := inv_at m K (c, .inr k)
  have hexp := expect_xfer m c k
  have hrest := rest_xfer m c k
  have hlater := duties_later m (kcell (c, .inr k))
  revert hinv hexp hrest hlater
  rw [← hsem, ← hN]
  intro hinv hexp hrest hlater
  unfold owe runs Prog.lift
  iintro ⟨#HR, Hc, Hat, ⟨%W, HO⟩⟩ HQ
  iapply (Rounds.wp_wait_rest_token 𝒱₀ ER (Rd m) (c : Thread nD τ) none (κ := K (c, .inr k))
      (wpE_waitDma2_eq 𝒱₀ (c : Thread nD τ) none Set.univ) (Set.mem_univ _) () (O := 0) (W := W) (R := 0) (m := 0) (T := ∅)
      (by rw [Nat.zero_add, hexp])) $$ [Hc HO Hat]
  · isplitr; · iapply hinv; iexact HR
    isplitl [Hc]; · iexact Hc
    isplitl [HO]; · iexact HO
    isplitr; · rw [MayWait_zero]; iempintro
    iexact Hat
  iintro ⟨HO, Hat, -, Hpay⟩
  rw [wp_ret]
  imod (Rounds.cell_close ER (Rd m) (Set.mem_univ (K (c, .inr k))) (fun h => h) (R := 0 + 1) hlater) $$ [Hat] with Hv
  · isplitr; · iapply hinv; iexact HR
    iexact Hat
  imodintro
  iapply HQ
  isplitl [Hpay]; · rw [← hrest]; iexact Hpay
  isplitl [Hv]; · iexact Hv
  iexists _; iexact HO

/-- Before final send wait `n`: the credits and positions of the waits to come, the pieces and counters of those made. -/
def doneSt (c : Dev nD) (n : ℕ) : sProp 𝕄 :=
  iprop(records m K ∗ (bigSep (Finset.Ico n 12) fun k => cred (tallyAt (sendCell c (nth 11 k)) () N))
    ∗ (bigSep (Finset.Ico n 12) fun k => atPos ER (sendCell c (nth 11 k)) 0 ∅ 0)
    ∗ (bigSep (Finset.Ico 0 n) fun k => anyOf c (sPiece (nth 11 k))) ∗ (bigSep (Finset.Ico 0 n) fun k => semVal (sendCell c (nth 11 k)) 0)
    ∗ owe c 0)

theorem sWait_spec (c : Dev nD) (n : ℕ) (hn : n < 12) (Q : PUnit → sProp 𝕄) :
    doneSt m K c n ⊢ iprop((doneSt m K c (n + 1) -∗ Q ⟨⟩) -∗ runs c (sWait (nth 11 n)) Q) := by
  unfold doneSt
  rw [bigSep_Ico_succ_bot hn, bigSep_Ico_succ_bot hn, bigSep_Ico_succ_top (Nat.zero_le n), bigSep_Ico_succ_top (Nat.zero_le n)]
  iintro ⟨#HR, ⟨Hc, Hcs⟩, ⟨Ha, Has⟩, Hp, Hv, HO⟩ HQ
  unfold sWait
  iapply (xfer_wait m K c (.inl (nth 11 n)) (dstw := sPiece (nth 11 n)) (sem := sS (nth 11 n)) rfl (sPiece_credit _) Q) $$ [Hc Ha HO]
  · isplitr; · iexact HR
    isplitl [Hc]; · iexact Hc
    isplitl [Ha] <;> iassumption
  iintro ⟨Hpay, Hv1, HO⟩
  iapply HQ
  isplitr; · iexact HR
  isplitl [Hcs]; · iexact Hcs
  isplitl [Has]; · iexact Has
  isplitl [Hp Hpay]
  · isplitl [Hpay]
    · unfold payOf sendPay; iexact Hpay
    iexact Hp
  isplitl [Hv Hv1]
  · isplitl [Hv1] <;> iassumption
  iexact HO

/-! ## The output stages -/

/-- What stage `t` puts out. -/
def oval (c : Dev nD) : ℕ → (S1024x512.Idx → Elt F .f32)
  | 0 => mm (xv m c) (wv m c 12) | 1 => mm (xv m c) (wv m c 13) | 2 => mm (xv m c) (wv m c 14)
  | 3 => extf .f32 (landed m c 0) bitsLt_bf16_f32 | 4 => mm (xv m c) (wv m c 15)
  | n + 5 => extf .f32 (landed m c (nth 11 (n + 1))) bitsLt_bf16_f32

/-- Staging slot `o` at rest. -/
def oRest (c : Dev nD) (o : Fin 2) : sProp 𝕄 := iprop(anyOf c (tSlot o) ∗ semVal ((c : Thread nD τ), .dma (tS o)) 0)
/-- Stage `t`'s copy out under way; done. -/
def oFly (c : Dev nD) (t : ℕ) : sProp 𝕄 :=
  iprop(∃ fs, Transfers.Flight EC (c : Thread nD τ) (.dma (tS (stageOf (nth 15 t)))) () (oPiece c (nth 15 t)).view.dmaCredit
    iprop(whl c (oPiece c (nth 15 t)) (oval m c t)
      ∗ ((tSlot (stageOf (nth 15 t))).view.loc (c : Thread nD τ) ↦[(tSlot (stageOf (nth 15 t))).view.set]{fullShare} fs)))
def oDone (c : Dev nD) (t : ℕ) : sProp 𝕄 := whl c (oPiece c (nth 15 t)) (oval m c t)
/-- The slot stage `t` will use, before the stage: its last copy, two stages back, under way. -/
def slotSt (c : Dev nD) (t : ℕ) : sProp 𝕄 := if 2 ≤ t then oFly m c (t - 2) else oRest c (stageOf (nth 15 t))
/-- Before stage `t`; the pieces of the result to come and those done. -/
def outSt (c : Dev nD) (t : ℕ) : sProp 𝕄 :=
  iprop(slotSt m c t ∗ slotSt m c (t + 1) ∗ (bigSep (Finset.Ico t 16) fun k => anyOf c (oPiece c (nth 15 k))) ∗ bigSep (Finset.Ico 0 (t - 2)) (oDone m c))
/-- Within stage `t`, its slot free. -/
def midSt (c : Dev nD) (t : ℕ) : sProp 𝕄 :=
  iprop(oRest c (stageOf (nth 15 t)) ∗ slotSt m c (t + 1) ∗ (bigSep (Finset.Ico t 16) fun k => anyOf c (oPiece c (nth 15 k))) ∗ bigSep (Finset.Ico 0 (t + 1 - 2)) (oDone m c))

theorem oWait_spec (c : Dev nD) (t : ℕ) (Q : PUnit → sProp 𝕄) :
    iprop(oFly m c t ∗ owe c 0)
      ⊢ iprop(((oDone m c t ∗ oRest c (stageOf (nth 15 t)) ∗ owe c 0) -∗ Q ⟨⟩) -∗ runs c (oWait c (nth 15 t)) Q) := by
  unfold oFly oWait
  iintro ⟨⟨%fs, HF⟩, HO⟩ HQ
  iapply (copy_wait c _ rfl Q) $$ [HF HO]
  · isplitl [HF]; · iexact HF
    isplitl [HO]; · iexact HO
    rw [MayWait_zero]; iempintro
  iintro ⟨⟨Hd, Hs⟩, Hv, HO⟩
  iapply HQ
  unfold oDone oRest anyOf
  isplitl [Hd]; · iexact Hd
  isplitl [Hs Hv]
  · isplitl [Hs]; · iexists fs; iexact Hs
    iexact Hv
  iexact HO

theorem oFree_spec (c : Dev nD) (t : ℕ) (ht : t < 16) (Q : PUnit → sProp 𝕄) :
    iprop(outSt m c t ∗ owe c 0) ⊢ iprop(((midSt m c t ∗ owe c 0) -∗ Q ⟨⟩) -∗ runs c (oFree c (nth 15 t)) Q) := by
  unfold outSt midSt oFree
  have hv : (nth 15 t).val = t := Nat.mod_eq_of_lt ht
  by_cases h : 2 ≤ t
  · obtain ⟨u, rfl⟩ : ∃ u, t = u + 2 := ⟨t - 2, by omega⟩
    rw [dif_pos (by rw [hv]; omega)]
    have e1 : ∀ hh, (⟨(nth 15 (u + 2)).val - 2, hh⟩ : Fin 16) = nth 15 u := fun _ => Fin.ext (by show (u + 2) % 16 - 2 = u % 16; omega)
    have e2 : stageOf (nth 15 (u + 2)) = stageOf (nth 15 u) := Fin.ext (by show (u + 2) % 16 % 2 = u % 16 % 2; omega)
    have e3 : slotSt m c (u + 2) = oFly m c u := if_pos (by omega)
    rw [e1, e2, e3, show u + 2 + 1 - 2 = u + 1 by omega, show u + 2 - 2 = u by omega, bigSep_Ico_succ_top (Nat.zero_le u)]
    iintro ⟨⟨HF, Hn, Hp, Hd⟩, HO⟩ HQ
    iapply (oWait_spec m c u Q) $$ [HF HO]
    · isplitl [HF] <;> iassumption
    iintro ⟨Hd1, Hr, HO⟩
    iapply HQ
    isplitr [HO]
    · isplitl [Hr]; · iexact Hr
      isplitl [Hn]; · iexact Hn
      isplitl [Hp]; · iexact Hp
      isplitl [Hd1] <;> iassumption
    iexact HO
  · rw [dif_neg (by rw [hv]; omega), show slotSt m c t = oRest c (stageOf (nth 15 t)) from if_neg h,
      show t + 1 - 2 = 0 by omega, show t - 2 = 0 by omega]
    iintro H HQ
    iapply (runs_pure c (⟨⟩ : PUnit) Q)
    iapply HQ; iexact H

theorem oFill_spec (c : Dev nD) (t : ℕ) (ht : t < 16) (v : FVec F S1024x512 .f32) (hv : v = oval m c t) (Q : PUnit → sProp 𝕄) :
    midSt m c t ⊢ iprop((outSt m c (t + 1) -∗ Q ⟨⟩) -∗ runs c (oFill c (nth 15 t) v) Q) := by
  unfold outSt midSt oFill oRest
  rw [bigSep_Ico_succ_bot ht]
  simp only [runs_bind]
  iintro ⟨⟨Hs, Hv⟩, Hn, ⟨Hp, Hps⟩, Hd⟩ HQ
  unfold tLoad tStore oStart
  iapply (piece_load_any (r := stageR _) (hr := fun _ => rfl) c squeezes_S1x1024x512_S1024x512 _) $$ Hs
  iintro %u Hs
  iapply (piece_store (r := stageR _) (hr := fun _ => rfl) c squeezes_S1x1024x512_S1024x512 shapeCasts_S1024x512_S1x1024x512 _ _) $$ Hs
  unfold whl owns
  iintro ⟨%fs, %hfs, Hs⟩
  iapply (copy_start c (src := tSlot (stageOf (nth 15 t))) (dst := oPiece c (nth 15 t)) (by decide) fs (hfs.trans hv) Q) $$ [Hs Hp Hv]
  · isplitl [Hs]; · iexact Hs
    isplitl [Hp] <;> iassumption
  iintro HF
  iapply HQ
  isplitl [Hn]; · iexact Hn
  isplitl [HF]
  · rw [show slotSt m c (t + 1 + 1) = oFly m c t from if_pos (by omega)]
    unfold oFly whl
    iexists fs; iexact HF
  isplitl [Hps] <;> iassumption

/-- An own step at stage `t`: its weight copy, arrived, used. -/
theorem ownStep_spec (c : Dev nD) (q : Fin 4) (t : ℕ) (ht : t < 16) (hv : mm (xv m c) (wv m c ⟨12 + q.val, by omega⟩) = oval m c t) (Q : PUnit → sProp 𝕄) :
    iprop(wFly m c ⟨12 + q.val, by omega⟩ ∗ whl c xB (xv m c) ∗ outSt m c t ∗ owe c 0)
      ⊢ iprop(((wFree m c (slotOf ⟨12 + q.val, by omega⟩) ∗ whl c xB (xv m c) ∗ outSt m c (t + 1) ∗ owe c 0) -∗ Q ⟨⟩)
          -∗ runs c (ownStep c q (nth 15 t)) Q) := by
  unfold ownStep
  simp only [runs_bind]
  iintro ⟨HF, Hx, Hout, HO⟩ HQ
  iapply (wWait_spec m c _ 0 _) $$ [HF HO]
  · isplitl [HF]; · iexact HF
    isplitl [HO]; · iexact HO
    rw [MayWait_zero]; iempintro
  iintro ⟨Hs, Hw, Hv, HO⟩
  iapply (oFree_spec m c t ht _) $$ [Hout HO]
  · isplitl [Hout] <;> iassumption
  iintro ⟨Hmid, HO⟩
  iapply (x_load c _) $$ Hx
  iintro Hx
  iapply (wLoad_spec c _ _ _) $$ Hs
  iintro %w %hw Hs
  iapply (oFill_spec m c t ht _ (by rw [hw]; exact hv) Q) $$ Hmid
  iintro Hout
  iapply HQ
  isplitl [Hs Hw Hv]
  · unfold wFree
    isplitl [Hw]; · iexact Hw
    isplitl [Hs]; · iapply (whl_anyOf c _ _); iexact Hs
    iexact Hv
  isplitl [Hx]; · iexact Hx
  isplitl [Hout] <;> iassumption

/-- What awaiting piece `i` takes; the buffer it is copied into, at rest. -/
def recvIn (c : Dev nD) (i : Fin 12) : sProp 𝕄 := iprop(cred (tallyAt (recvCell c i) () N) ∗ atPos ER (recvCell c i) 0 ∅ 0)
def pRest (c : Dev nD) : sProp 𝕄 := iprop(anyOf c pB ∗ semVal ((c : Thread nD τ), .dma pS) 0)

theorem drainStep_spec (c : Dev nD) (i : Fin 12) (t : ℕ) (ht : t < 16) (hv : extf .f32 (landed m c i) bitsLt_bf16_f32 = oval m c t) (Q : PUnit → sProp 𝕄) :
    iprop(records m K ∗ recvIn c i ∗ pRest c ∗ outSt m c t ∗ owe c 0)
      ⊢ iprop(((semVal (recvCell c i) 0 ∗ pRest c ∗ outSt m c (t + 1) ∗ owe c 0) -∗ Q ⟨⟩) -∗ runs c (drainStep c i (nth 15 t)) Q) := by
  unfold drainStep recvIn pRest
  simp only [runs_bind]
  iintro ⟨#HR, ⟨Hc, Ha⟩, ⟨Hp, Hpv⟩, Hout, HO⟩ HQ
  unfold rWait pStart pWait
  iapply (xfer_wait m K c (.inr i) (dstw := rPiece i) (sem := rS i) rfl (rPiece_credit i) _) $$ [Hc Ha HO]
  · isplitr; · iexact HR
    isplitl [Hc]; · iexact Hc
    isplitl [Ha] <;> iassumption
  iintro ⟨Hpay, Hrv, HO⟩
  unfold payOf recvPay whl owns
  icases Hpay with ⟨%fs, %hfs, Hs⟩
  iapply (copy_start c (src := rPiece i) (dst := pB) (by decide) fs hfs _) $$ [Hs Hp Hpv]
  · isplitl [Hs]; · iexact Hs
    isplitl [Hp] <;> iassumption
  iintro HF
  iapply (copy_wait c _ rfl _) $$ [HF HO]
  · isplitl [HF]; · iexact HF
    isplitl [HO]; · iexact HO
    rw [MayWait_zero]; iempintro
  iintro ⟨⟨Hp, -⟩, Hpv, HO⟩
  iapply (oFree_spec m c t ht _) $$ [Hout HO]
  · isplitl [Hout] <;> iassumption
  iintro ⟨Hmid, HO⟩
  iapply (p_load c _) $$ Hp
  iintro Hp
  iapply (oFill_spec m c t ht _ hv Q) $$ Hmid
  iintro Hout
  iapply HQ
  isplitl [Hrv]; · iexact Hrv
  isplitl [Hp Hpv]
  · isplitl [Hp]; · iapply (whl_anyOf c _ _); iexact Hp
    iexact Hpv
  isplitl [Hout] <;> iassumption

end Cert.Kern

end
-- ==== Proof.Body.lean ====
/-
# 01_k — the program of a device, whole
-/
module

public import proofs.«01_k».proof.Proof.Out

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The device's rows of `x`, where they are and stay. -/
def xHome (c : Dev nD) : sProp 𝕄 := xH.view.loc (c : Thread nD τ) ↦[xH.view.set]{fullShare} m ((c : Thread nD τ).loc main_arg0)

/-- What the barrier takes: the room for the three slabs, the signals' duties, the wait's credit and position. -/
def barIn (c : Dev nD) : sProp 𝕄 :=
  iprop((room c 0 ∗ room c 1 ∗ room c 2)
    ∗ (dutyTok ER (barCell (bwd c (dist 0))) 0 0 ∗ dutyTok ER (barCell (bwd c (dist 1))) 0 1 ∗ dutyTok ER (barCell (bwd c (dist 2))) 0 2)
    ∗ cred (tallyAt (barCell c) () 3) ∗ atPos ER (barCell c) 0 ∅ 0)
/-- What the sends take, the landing rooms aside: the pieces of the send buffer, the duties. -/
def sendsIn (c : Dev nD) : sProp 𝕄 :=
  iprop((bigSep (Finset.Ico 0 12) fun k => anyOf c (sPiece (nth 11 k))) ∗ (bigSep (Finset.Ico 0 12) fun k => dutyTok ER (sendCell c (nth 11 k)) 0 0)
    ∗ bigSep (Finset.Ico 0 12) fun k => dutyTok ER (recvCell (peer c (nth 11 k)) (nth 11 k)) 0 0)
/-- A device's own buffers and counters, as the program finds them. -/
def ownIn (c : Dev nD) : sProp 𝕄 :=
  iprop((anyOf c xB ∗ semVal ((c : Thread nD τ), .dma xS) 0) ∗ (wFree m c 0 ∗ wFree m c 1 ∗ wFree m c 2) ∗ pRest c ∗ (oRest c 0 ∗ oRest c 1)
    ∗ bigSep (Finset.Ico 0 16) fun k => anyOf c (oPiece c (nth 15 k)))

def progIn (c : Dev nD) : sProp 𝕄 :=
  iprop(records m K ∗ xHome m c ∗ barIn c ∗ sendsIn c ∗ ownIn m c ∗ (bigSep (Finset.Ico 0 12) fun k => atPos ER (sendCell c (nth 11 k)) 0 ∅ 0)
    ∗ (bigSep (Finset.Ico 0 12) fun k => recvIn c (nth 11 k)) ∗ owe c (O₀ c))

/-- As it leaves them: the result's pieces at their values, every counter at zero, nothing owed. -/
def ownOut (c : Dev nD) : sProp 𝕄 :=
  iprop((anyOf c xB ∗ semVal ((c : Thread nD τ), .dma xS) 0) ∗ (wFree m c 0 ∗ wFree m c 1 ∗ wFree m c 2) ∗ pRest c ∗ (oRest c 0 ∗ oRest c 1)
    ∗ bigSep (Finset.Ico 0 16) (oDone m c))
def progOut (c : Dev nD) : sProp 𝕄 :=
  iprop(xHome m c ∗ ownOut m c ∗ semVal (barCell c) 0
    ∗ (bigSep (Finset.Ico 0 12) fun k => anyOf c (sPiece (nth 11 k))) ∗ (bigSep (Finset.Ico 0 12) fun k => semVal (sendCell c (nth 11 k)) 0)
    ∗ (bigSep (Finset.Ico 0 12) fun k => semVal (recvCell c (nth 11 k)) 0) ∗ owe c 0)

theorem sendsIn_room (c : Dev nD) :
    iprop(sendsIn c ∗ bigSep (Finset.Ico 0 12) fun k => anyOf (peer c (nth 11 k)) (rPiece (nth 11 k)))
      ⊢ (bigSep (Finset.Ico 0 12) fun k => sendIn c (nth 11 k) : sProp 𝕄) := by
  unfold sendsIn sendIn
  rw [bigSep_sep', bigSep_sep', bigSep_sep']
  iintro ⟨⟨Hp, Ht, Hr⟩, Hd⟩
  isplitl [Hp]; · iexact Hp
  isplitl [Hd]; · iexact Hd
  isplitl [Ht] <;> iassumption

/-- Before drain step `n` of the run of drain steps. -/
def drainSt (c : Dev nD) (n : ℕ) : sProp 𝕄 :=
  iprop(records m K ∗ (bigSep (Finset.Ico n 12) fun k => recvIn c (nth 11 k)) ∗ (bigSep (Finset.Ico 0 n) fun k => semVal (recvCell c (nth 11 k)) 0)
    ∗ pRest c ∗ outSt m c (n + 4) ∗ owe c 0)

theorem drain_spec (c : Dev nD) (n : ℕ) (h1 : 1 ≤ n) (h2 : n < 1 + 11) (Q : PUnit → sProp 𝕄) :
    drainSt m K c n ⊢ iprop((drainSt m K c (n + 1) -∗ Q ⟨⟩) -∗ runs c (drainStep c (nth 11 n) (nth 15 (n + 4))) Q) := by
  have hv : extf .f32 (landed m c (nth 11 n)) bitsLt_bf16_f32 = oval m c (n + 4) := by
    obtain ⟨k, rfl⟩ : ∃ k, n = k + 1 := ⟨n - 1, by omega⟩
    rfl
  unfold drainSt
  rw [bigSep_Ico_succ_bot (show n < 12 by omega), bigSep_Ico_succ_top (Nat.zero_le n), show n + 1 + 4 = n + 4 + 1 by omega]
  iintro ⟨#HR, ⟨Hi, His⟩, Hv, Hp, Ho, HO⟩ HQ
  iapply (drainStep_spec m K c (nth 11 n) (n + 4) (by omega) hv Q) $$ [Hi Hp Ho HO]
  · isplitr; · iexact HR
    isplitl [Hi]; · iexact Hi
    isplitl [Hp]; · iexact Hp
    isplitl [Ho] <;> iassumption
  iintro ⟨Hv1, Hp, Ho, HO⟩
  iapply HQ
  isplitr; · iexact HR
  isplitl [His]; · iexact His
  isplitl [Hv Hv1]
  · isplitl [Hv1] <;> iassumption
  isplitl [Hp]; · iexact Hp
  isplitl [Ho] <;> iassumption

theorem lv_xS (c : Dev nD) : lv ((c : Thread nD τ), .dma xS) () ≤ 0 := by
  show lvOf (cls (.dma xS)) ≤ 0; decide

/-- A weight copy into the slot it names; an own step likewise, at the numbers the program gives. -/
theorem wStart_at (c : Dev nD) (s : Fin 16) (k : Fin 3) (hk : slotOf s = k) (Q : PUnit → sProp 𝕄) :
    wFree m c k ⊢ iprop((wFly m c s -∗ Q ⟨⟩) -∗ runs c (wStart c s) Q) := by subst hk; exact wStart_spec m c s Q
theorem own_at (c : Dev nD) (q : Fin 4) (t : ℕ) (ht : t < 16) (u : Fin 16) (hu : nth 15 t = u) (s : Fin 16) (hs : 12 + q.val = s.val) (k : Fin 3)
    (hk : slotOf s = k) (hv : mm (xv m c) (wv m c s) = oval m c t) (Q : PUnit → sProp 𝕄) :
    iprop(wFly m c s ∗ whl c xB (xv m c) ∗ outSt m c t ∗ owe c 0)
      ⊢ iprop(((wFree m c k ∗ whl c xB (xv m c) ∗ outSt m c (t + 1) ∗ owe c 0) -∗ Q ⟨⟩) -∗ runs c (ownStep c q u) Q) := by
  obtain ⟨s, hs'⟩ := s
  obtain rfl : 12 + q.val = s := hs
  subst hk hu
  exact ownStep_spec m c q t ht hv Q

theorem drain_at (c : Dev nD) (i : Fin 12) (t : ℕ) (ht : t < 16) (u : Fin 16) (hu : nth 15 t = u)
    (hv : extf .f32 (landed m c i) bitsLt_bf16_f32 = oval m c t) (Q : PUnit → sProp 𝕄) :
    iprop(records m K ∗ recvIn c i ∗ pRest c ∗ outSt m c t ∗ owe c 0)
      ⊢ iprop(((semVal (recvCell c i) 0 ∗ pRest c ∗ outSt m c (t + 1) ∗ owe c 0) -∗ Q ⟨⟩) -∗ runs c (drainStep c i u) Q) := by
  subst hu; exact drainStep_spec m K c i t ht hv Q

/-- The program of device `c`. -/
theorem prog_spec (c : Dev nD) (Q : PUnit → sProp 𝕄) : progIn m K c ⊢ iprop((progOut m c -∗ Q ⟨⟩) -∗ runs c (prog c) Q) := by
  have hrecv : (bigSep (Finset.Ico 0 12) fun k => (recvIn c (nth 11 k) : sProp 𝕄)) = iprop(recvIn c 0 ∗ bigSep (Finset.Ico 1 12) fun k => recvIn c (nth 11 k)) :=
    bigSep_Ico_succ_bot (by decide) _
  unfold progIn barIn ownIn xHome O₀ O₁ O₂ prog
  rw [hrecv]
  simp only [runs_bind]
  iintro ⟨#HR, Hxh, ⟨⟨Hr0, Hr1, Hr2⟩, ⟨Ht0, Ht1, Ht2⟩, HcB, HatB⟩, Hsends, ⟨⟨Hx, Hxv⟩, ⟨Hw0, Hw1, Hw2⟩, Hp, ⟨Ho0, Ho1⟩, Hout⟩, HatS, ⟨Hi, Hrecv⟩, HO⟩ HQ
  -- the operands' copies
  unfold xStart
  iapply (copy_start c (src := xH) (dst := xB) (X := xv m c) (by decide) (m ((c : Thread nD τ).loc main_arg0)) rfl _) $$ [Hxh Hx Hxv]
  · isplitl [Hxh]; · iexact Hxh
    isplitl [Hx] <;> iassumption
  iintro HxF
  iapply (wStart_at m c 0 0 rfl _) $$ Hw0
  iintro Hf0
  iapply (wStart_at m c 1 1 rfl _) $$ Hw1
  iintro Hf1
  iapply (wStart_at m c 2 2 rfl _) $$ Hw2
  iintro Hf2
  -- the barrier
  unfold bar1 bar2 bar3
  iapply (signal_to m K c _ 2 (dev1_eq c) _ _) $$ [HO Ht2 Hr2]
  · isplitr; · iexact HR
    isplitl [HO]; · iexact HO
    isplitl [Ht2] <;> iassumption
  iintro HO
  iapply (signal_to m K c _ 0 (dev2_eq c) _ _) $$ [HO Ht0 Hr0]
  · isplitr; · iexact HR
    isplitl [HO]; · iexact HO
    isplitl [Ht0] <;> iassumption
  iintro HO
  iapply (signal_to m K c _ 1 (dev3_eq c) _ _) $$ [HO Ht1 Hr1]
  · isplitr; · iexact HR
    isplitl [HO]; · iexact HO
    isplitl [Ht1] <;> iassumption
  iintro HO
  iapply (barWait_spec m K c _) $$ [HcB HatB HO]
  · isplitr; · iexact HR
    isplitl [HcB]; · iexact HcB
    isplitl [HatB] <;> iassumption
  iintro ⟨Hroom, HvB, HO⟩
  unfold xWait
  iapply (copy_wait c _ rfl _) $$ [HxF HO]
  · isplitl [HxF]; · iexact HxF
    isplitl [HO]; · iexact HO
    iapply (mayWait_low c _ 0 (lv_xS c) (by decide) 0)
    iapply (lev_at m K); iexact HR
  iintro ⟨⟨Hx, Hxh⟩, Hxv, HO⟩
  -- the sends
  ihave Hins := (sendsIn_room c) $$ [Hsends Hroom]
  · isplitl [Hsends] <;> iassumption
  iapply (runs_repeat c _ (sendSt m K c) 12 0 (fun j _ hj Q => sendStep_spec m K c j (by omega) Q) _) $$ [Hx Hf0 Hf1 Hf2 Hins HO]
  · unfold sendSt
    isplitr; · iexact HR
    isplitl [Hx]; · iexact Hx
    isplitl [Hf0 Hf1 Hf2]
    · isplitl [Hf0]; · iexact Hf0
      isplitl [Hf1]; · iexact Hf1
      iexact Hf2
    isplitl [Hins]; · iexact Hins
    isplitr; · rw [Finset.Ico_self, bigSep_empty]; iempintro
    iexact HO
  unfold sendSt
  rw [show 0 + 12 = 12 from rfl, pend_done]
  iintro ⟨-, Hx, ⟨Hf0, Hf1, Hf2⟩, -, HcS, HO⟩
  -- the output: this device's own pieces and the first received one
  iapply (own_at m c 0 0 (by decide) _ rfl 12 rfl 0 rfl rfl _) $$ [Hf0 Hx Ho0 Ho1 Hout HO]
  · isplitl [Hf0]; · iexact Hf0
    isplitl [Hx]; · iexact Hx
    isplitr [HO]
    · unfold outSt
      rw [show slotSt m c 0 = oRest c 0 from if_neg (by decide), show slotSt m c (0 + 1) = oRest c 1 from if_neg (by decide)]
      isplitl [Ho0]; · iexact Ho0
      isplitl [Ho1]; · iexact Ho1
      isplitl [Hout]; · iexact Hout
      rw [show 0 - 2 = 0 from rfl, Finset.Ico_self, bigSep_empty]; iempintro
    iexact HO
  iintro ⟨Hw0, Hx, Hout, HO⟩
  iapply (wStart_at m c 15 0 rfl _) $$ Hw0
  iintro Hf3
  iapply (own_at m c 1 1 (by decide) _ rfl 13 rfl 1 rfl rfl _) $$ [Hf1 Hx Hout HO]
  · isplitl [Hf1]; · iexact Hf1
    isplitl [Hx]; · iexact Hx
    isplitl [Hout] <;> iassumption
  iintro ⟨Hw1, Hx, Hout, HO⟩
  iapply (own_at m c 2 2 (by decide) _ rfl 14 rfl 2 rfl rfl _) $$ [Hf2 Hx Hout HO]
  · isplitl [Hf2]; · iexact Hf2
    isplitl [Hx]; · iexact Hx
    isplitl [Hout] <;> iassumption
  iintro ⟨Hw2, Hx, Hout, HO⟩
  iapply (drain_at m K c 0 3 (by decide) 3 rfl rfl _) $$ [Hi Hp Hout HO]
  · isplitr; · iexact HR
    isplitl [Hi]; · iexact Hi
    isplitl [Hp]; · iexact Hp
    isplitl [Hout] <;> iassumption
  iintro ⟨Hrv, Hp, Hout, HO⟩
  iapply (own_at m c 3 4 (by decide) _ rfl 15 rfl 0 rfl rfl _) $$ [Hf3 Hx Hout HO]
  · isplitl [Hf3]; · iexact Hf3
    isplitl [Hx]; · iexact Hx
    isplitl [Hout] <;> iassumption
  iintro ⟨Hw0, Hx, Hout, HO⟩
  -- the other received pieces
  iapply (runs_repeat c _ (drainSt m K c) 11 1 (fun j h1 h2 Q => drain_spec m K c j h1 h2 Q) _) $$ [Hrecv Hrv Hp Hout HO]
  · unfold drainSt
    isplitr; · iexact HR
    isplitl [Hrecv]; · iexact Hrecv
    isplitl [Hrv]
    · rw [bigSep_Ico_succ_top (Nat.le_refl 0), Finset.Ico_self, bigSep_empty]
      isplitl [Hrv]; · iexact Hrv
      iempintro
    isplitl [Hp]; · iexact Hp
    isplitl [Hout] <;> iassumption
  unfold drainSt outSt
  rw [show slotSt m c (1 + 11 + 4) = oFly m c 14 from if_pos (by decide), show slotSt m c (1 + 11 + 4 + 1) = oFly m c 15 from if_pos (by decide)]
  iintro ⟨-, -, Hrv, Hp, ⟨Ho0, Ho1, -, Hdone⟩, HO⟩
  -- the last two copies out, and the sends' own waits
  iapply (oWait_spec m c 14 _) $$ [Ho0 HO]
  · isplitl [Ho0] <;> iassumption
  iintro ⟨Hd14, Ho0, HO⟩
  iapply (oWait_spec m c 15 _) $$ [Ho1 HO]
  · isplitl [Ho1] <;> iassumption
  iintro ⟨Hd15, Ho1, HO⟩
  iapply (runs_repeat c _ (doneSt m K c) 12 0 (fun j _ hj Q => sWait_spec m K c j (by omega) Q) _) $$ [HcS HatS HO]
  · unfold doneSt
    isplitr; · iexact HR
    isplitl [HcS]; · iexact HcS
    isplitl [HatS]; · iexact HatS
    isplitr; · rw [Finset.Ico_self, bigSep_empty]; iempintro
    isplitr; · rw [Finset.Ico_self, bigSep_empty]; iempintro
    iexact HO
  unfold doneSt
  iintro ⟨-, -, -, Hs, Hsv, HO⟩
  iapply HQ
  unfold progOut ownOut xHome
  isplitl [Hxh]; · iexact Hxh
  isplitl [Hx Hxv Hw0 Hw1 Hw2 Hp Ho0 Ho1 Hdone Hd14 Hd15]
  · isplitl [Hx Hxv]
    · isplitl [Hx]; · iapply (whl_anyOf c _ _); iexact Hx
      iexact Hxv
    isplitl [Hw0 Hw1 Hw2]
    · isplitl [Hw0]; · iexact Hw0
      isplitl [Hw1]; · iexact Hw1
      iexact Hw2
    isplitl [Hp]; · iexact Hp
    isplitl [Ho0 Ho1]
    · isplitl [Ho0]; · iexact Ho0
      iexact Ho1
    rw [bigSep_Ico_succ_top (show 0 ≤ 15 by decide), bigSep_Ico_succ_top (show 0 ≤ 14 by decide)]
    isplitl [Hd15]; · iexact Hd15
    isplitl [Hd14]; · iexact Hd14
    iexact Hdone
  isplitl [HvB]; · iexact HvB
  isplitl [Hs]; · iexact Hs
  isplitl [Hsv]; · iexact Hsv
  isplitl [Hrv]; · iexact Hrv
  iexact HO

end Cert.Kern

end
-- ==== Proof.Buffers.lean ====
/-
# 01_k — buffers and their pieces

A buffer cut into the pieces the steps work on, and put together again. Membership in a piece is a statement about two or
three coordinates.
-/
module

public import proofs.«01_k».proof.Proof.Body

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting and gluing, in general -/

section General

variable {ℓ : Loc nD τ sig} {n : ℕ} {S : Fin (n + 1) → Finset (Idx ℓ)}

/-- The sets meet nowhere and leave nothing out. -/
structure Parts (S : Fin (n + 1) → Finset (Idx ℓ)) : Prop where
  one : ∀ i j x, x ∈ S i → x ∈ S j → i = j
  all : ∀ x, ∃ i, x ∈ S i

theorem Parts.disjoint (h : Parts S) : ∀ t ∈ (Finset.univ : Finset (Fin (n + 1))), ∀ t' ∈ (Finset.univ : Finset (Fin (n + 1))), t ≠ t' → Disjoint (S t) (S t') :=
  fun i _ j _ hne => Finset.disjoint_left.mpr fun x hi hj => hne (h.one i j x hi hj)
theorem Parts.union (h : Parts S) : (Finset.univ : Finset (Fin (n + 1))).biUnion S = Finset.univ :=
  Finset.eq_univ_iff_forall.mpr fun x => Finset.mem_biUnion.mpr ((h.all x).imp fun i hi => ⟨Finset.mem_univ i, hi⟩)

theorem cut (h : Parts S) (f : Buf (Elt F) ℓ) :
    (ℓ ↦{fullShare} f : sProp 𝕄) ⊢ bigSep (Finset.Ico 0 (n + 1)) fun k => iprop(∃ g, ℓ ↦[S (nth n k)]{fullShare} g) := by
  rw [show (ℓ ↦{fullShare} f : sProp 𝕄) = ℓ ↦[(Finset.univ : Finset (Fin (n + 1))).biUnion S]{fullShare} f by rw [h.union],
    pointsTo_biUnion _ S h.disjoint, bigSep_fin_run n fun i => (ℓ ↦[S i]{fullShare} f : sProp 𝕄)]
  have one (k : ℕ) : (ℓ ↦[S (nth n k)]{fullShare} f : sProp 𝕄) ⊢ iprop(∃ g, ℓ ↦[S (nth n k)]{fullShare} g) := by
    iintro H
    iexists f; iexact H
  exact bigSep_mono fun k _ => one k

/-- Pieces of which something is known, `P i` looking at piece `i` alone, are a whole buffer of which all of it is. -/
theorem glue (h : Parts S) (f₀ : Buf (Elt F) ℓ) (P : Fin (n + 1) → Buf (Elt F) ℓ → Prop) (hP : ∀ i f g, (∀ x ∈ S i, g x = f x) → P i f → P i g) :
    (bigSep (Finset.Ico 0 (n + 1)) fun k => iprop(∃ f, ⌜P (nth n k) f⌝ ∗ ℓ ↦[S (nth n k)]{fullShare} f) : sProp 𝕄)
      ⊢ iprop(∃ g, ⌜∀ i, P i g⌝ ∗ ℓ ↦{fullShare} g) := by
  haveI : Nonempty (Buf (Elt F) ℓ) := ⟨f₀⟩
  rw [← bigSep_fin_run n fun i => iprop(∃ f, ⌜P i f⌝ ∗ (ℓ ↦[S i]{fullShare} f : sProp 𝕄))]
  refine (BI.bigSep_exists_pi Finset.univ (fun (i : Fin (n + 1)) (f : Buf (Elt F) ℓ) => iprop(⌜P i f⌝ ∗ (ℓ ↦[S i]{fullShare} f : sProp 𝕄)))).trans ?_
  iintro ⟨%fs, H⟩
  ihave H := (bigSep_pure_sep Finset.univ (fun i => P i (fs i)) (fun i => (ℓ ↦[S i]{fullShare} fs i : sProp 𝕄))) $$ H
  icases H with ⟨%hfs, H⟩
  ihave H := (pointsTo_biUnion_join Finset.univ S fs f₀ h.disjoint) $$ H
  icases H with ⟨%g, %hg, H⟩
  iexists g
  isplitr
  · ipureintro; exact fun i => hP i (fs i) g (hg i (Finset.mem_univ i)) (hfs i (Finset.mem_univ i))
  rw [h.union]; iexact H

theorem glue_any (h : Parts S) (f₀ : Buf (Elt F) ℓ) :
    (bigSep (Finset.Ico 0 (n + 1)) fun k => iprop(∃ f, ℓ ↦[S (nth n k)]{fullShare} f) : sProp 𝕄) ⊢ iprop(∃ g, ℓ ↦{fullShare} g) := by
  have one (k : ℕ) : iprop(∃ f, ℓ ↦[S (nth n k)]{fullShare} f) ⊢ (iprop(∃ f, ⌜True⌝ ∗ ℓ ↦[S (nth n k)]{fullShare} f) : sProp 𝕄) := by
    iintro ⟨%f, H⟩
    iexists f
    isplitr; · ipureintro; trivial
    iexact H
  refine (bigSep_mono fun k _ => one k).trans ((glue h f₀ (fun _ _ => True) fun _ _ _ _ _ => trivial).trans ?_)
  iintro ⟨%g, -, H⟩
  iexists g; iexact H

end General

/-! ## Where the pieces lie -/

theorem mem_piece (i : Fin 12) (x : S3x1024x2048.Idx) : x ∈ (pieceR i).set ↔ (x 0).val = i.val / 4 ∧ (x 2).val / 512 = i.val % 4 := by
  rw [Rect.mem_set_unit]
  have h1 : (x 1).val < 1024 := (x 1).isLt
  have h2 : (x 2).val < 2048 := (x 2).isLt
  constructor
  · intro h
    have a0 : i.val / 4 ≤ (x 0).val ∧ (x 0).val < i.val / 4 + 1 := h 0
    have a2 : 512 * (i.val % 4) ≤ (x 2).val ∧ (x 2).val < 512 * (i.val % 4) + 512 := h 2
    omega
  · rintro ⟨a0, a2⟩ a
    match a with
    | ⟨0, _⟩ => show i.val / 4 ≤ (x 0).val ∧ (x 0).val < i.val / 4 + 1; omega
    | ⟨1, _⟩ => show 0 ≤ (x 1).val ∧ (x 1).val < 0 + 1024; omega
    | ⟨2, _⟩ => show 512 * (i.val % 4) ≤ (x 2).val ∧ (x 2).val < 512 * (i.val % 4) + 512; omega

theorem piece_parts (S : Fin 12 → Finset S3x1024x2048.Idx) (h : ∀ i, S i = (pieceR i).set) :
    (∀ i j x, x ∈ S i → x ∈ S j → i = j) ∧ ∀ x, ∃ i, x ∈ S i := by
  refine ⟨fun i j x hi hj => ?_, fun x => ?_⟩
  · rw [h, mem_piece] at hi hj
    exact Fin.ext (by omega)
  · have h0 : (x 0).val < 3 := (x 0).isLt
    have h2 : (x 2).val < 2048 := (x 2).isLt
    refine ⟨⟨4 * (x 0).val + (x 2).val / 512, by omega⟩, ?_⟩
    rw [h, mem_piece]
    refine ⟨?_, ?_⟩
    · show _ = (4 * (x 0).val + (x 2).val / 512) / 4
      omega
    · show _ = (4 * (x 0).val + (x 2).val / 512) % 4
      omega

theorem mem_slot (k : Fin 3) (x : S3x4096x512.Idx) : x ∈ (slotR k).set ↔ (x 0).val = k.val := by
  rw [Rect.mem_set_unit]
  have h1 : (x 1).val < 4096 := (x 1).isLt
  have h2 : (x 2).val < 512 := (x 2).isLt
  constructor
  · intro h
    have a0 : k.val ≤ (x 0).val ∧ (x 0).val < k.val + 1 := h 0
    omega
  · intro a0 a
    match a with
    | ⟨0, _⟩ => show k.val ≤ (x 0).val ∧ (x 0).val < k.val + 1; omega
    | ⟨1, _⟩ => show 0 ≤ (x 1).val ∧ (x 1).val < 0 + 4096; omega
    | ⟨2, _⟩ => show 0 ≤ (x 2).val ∧ (x 2).val < 0 + 512; omega

theorem mem_stage (o : Fin 2) (x : S2x1024x512.Idx) : x ∈ (stageR o).set ↔ (x 0).val = o.val := by
  rw [Rect.mem_set_unit]
  have h1 : (x 1).val < 1024 := (x 1).isLt
  have h2 : (x 2).val < 512 := (x 2).isLt
  constructor
  · intro h
    have a0 : o.val ≤ (x 0).val ∧ (x 0).val < o.val + 1 := h 0
    omega
  · intro a0 a
    match a with
    | ⟨0, _⟩ => show o.val ≤ (x 0).val ∧ (x 0).val < o.val + 1; omega
    | ⟨1, _⟩ => show 0 ≤ (x 1).val ∧ (x 1).val < 0 + 1024; omega
    | ⟨2, _⟩ => show 0 ≤ (x 2).val ∧ (x 2).val < 0 + 512; omega

abbrev outR (c : Dev nD) (t : Fin 16) : Rect S4096x2048 := Rect.unit (s := S4096x2048) (outOff c t.val) S1024x512.size (outOff_inb c t)

theorem mem_out (c : Dev nD) (t : Fin 16) (x : S4096x2048.Idx) :
    x ∈ (outR c t).set ↔ (x 0).val / 1024 = (stageSrc c t.val).val ∧ (x 1).val / 512 = stageCol t.val := by
  rw [Rect.mem_set_unit]
  have e0 : outOff c t.val 0 = 1024 * (stageSrc c t.val).val := by rw [outOff_eq]; rfl
  have e1 : outOff c t.val 1 = 512 * stageCol t.val := by rw [outOff_eq]; rfl
  constructor
  · intro h
    have a0 : outOff c t.val 0 ≤ (x 0).val ∧ (x 0).val < outOff c t.val 0 + 1024 := h 0
    have a1 : outOff c t.val 1 ≤ (x 1).val ∧ (x 1).val < outOff c t.val 1 + 512 := h 1
    rw [e0] at a0; rw [e1] at a1
    omega
  · rintro ⟨a0, a1⟩ a
    match a with
    | ⟨0, _⟩ => show outOff c t.val 0 ≤ (x 0).val ∧ (x 0).val < outOff c t.val 0 + 1024; rw [e0]; omega
    | ⟨1, _⟩ => show outOff c t.val 1 ≤ (x 1).val ∧ (x 1).val < outOff c t.val 1 + 512; rw [e1]; omega

/-- A stage is told by its rows' device and its columns' quarter, and every pair of these has its stage. -/
theorem stage_one : ∀ (c : Dev nD) (t u : Fin 16), stageSrc c t.val = stageSrc c u.val → stageCol t.val = stageCol u.val → t = u := by decide +kernel
theorem stage_all : ∀ (c r : Dev nD) (k : Fin 4), ∃ t : Fin 16, stageSrc c t.val = r ∧ stageCol t.val = k.val := by decide +kernel

theorem out_at (c : Dev nD) (x : S4096x2048.Idx) : ∃ t, x ∈ (outR c t).set := by
  have h0 : (x 0).val < 4096 := (x 0).isLt
  have h1 : (x 1).val < 2048 := (x 1).isLt
  obtain ⟨t, ht, hk⟩ := stage_all c ⟨(x 0).val / 1024, by show _ < 4; omega⟩ ⟨(x 1).val / 512, by omega⟩
  exact ⟨t, (mem_out c t x).mpr ⟨by rw [ht], by rw [hk]⟩⟩

theorem sParts (c : Dev nD) : Parts (ℓ := (c : Thread nD τ).loc cc0_scratch2) fun i => (sPiece i).view.set :=
  have h := piece_parts (fun i => (sPiece i).view.set) fun i => (View.set_reshape _ _).trans (View.set_slice_whole _ _)
  ⟨h.1, h.2⟩
theorem rParts (c : Dev nD) : Parts (ℓ := (c : Thread nD τ).loc main_v1_1) fun i => (rPiece i).view.set :=
  have h := piece_parts (fun i => (rPiece i).view.set) fun i => (View.set_reshape _ _).trans (View.set_slice_whole _ _)
  ⟨h.1, h.2⟩
theorem wParts (c : Dev nD) : Parts (ℓ := (c : Thread nD τ).loc cc0_scratch1) fun k : Fin 3 => (wSlot k).view.set := by
  have e (k : Fin 3) : (wSlot k).view.set = (slotR k).set := (View.set_reshape _ _).trans (View.set_slice_whole _ _)
  refine ⟨fun i j x hi hj => ?_, fun x => ⟨⟨(x 0).val, (x 0).isLt⟩, ?_⟩⟩
  · have hi' := (mem_slot i x).mp (by rw [← e]; exact hi)
    have hj' := (mem_slot j x).mp (by rw [← e]; exact hj)
    exact Fin.ext (hi'.symm.trans hj')
  · have h := (mem_slot ⟨(x 0).val, (x 0).isLt⟩ x).mpr rfl
    rw [← e] at h; exact h
theorem tParts (c : Dev nD) : Parts (ℓ := (c : Thread nD τ).loc cc0_scratch4) fun o : Fin 2 => (tSlot o).view.set := by
  have e (o : Fin 2) : (tSlot o).view.set = (stageR o).set := (View.set_reshape _ _).trans (View.set_slice_whole _ _)
  refine ⟨fun i j x hi hj => ?_, fun x => ⟨⟨(x 0).val, (x 0).isLt⟩, ?_⟩⟩
  · have hi' := (mem_stage i x).mp (by rw [← e]; exact hi)
    have hj' := (mem_stage j x).mp (by rw [← e]; exact hj)
    exact Fin.ext (hi'.symm.trans hj')
  · have h := (mem_stage ⟨(x 0).val, (x 0).isLt⟩ x).mpr rfl
    rw [← e] at h; exact h
theorem oParts (c : Dev nD) : Parts (ℓ := (c : Thread nD τ).loc main_v1_0) fun t : Fin 16 => (oPiece c t).view.set := by
  have e (t : Fin 16) : (oPiece c t).view.set = (outR c t).set := View.set_slice_whole _ _
  refine ⟨fun i j x hi hj => ?_, fun x => ?_⟩
  · have hi' := (mem_out c i x).mp (by rw [← e]; exact hi)
    have hj' := (mem_out c j x).mp (by rw [← e]; exact hj)
    exact stage_one c i j (Fin.ext (hi'.1.symm.trans hj'.1)) (hi'.2.symm.trans hj'.2)
  · obtain ⟨t, ht⟩ := out_at c x
    refine ⟨t, ?_⟩
    rw [← e] at ht; exact ht

end Cert.Kern

end
-- ==== Proof.Ghost.lean ====
/-
# 01_k — what the launch deals each device

The protocol's cells are opened for all devices at once, each duty's token goes to the device that pays it, and a device's
launch credit is what the others owe its barrier and its receives.
-/
module

public import proofs.«01_k».proof.Proof.Buffers

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's semaphores: its own copies', and the protocol's sends and receives -/

abbrev LK : Type := (Unit ⊕ Fin 3) ⊕ (Unit ⊕ Fin 2)
abbrev OK : Type := LK ⊕ (Fin 12 ⊕ Fin 12)
abbrev lsem : LK → SemLoc sig
  | .inl (.inl _) => .dma xS | .inl (.inr k) => .dma (wS k) | .inr (.inl _) => .dma pS | .inr (.inr o) => .dma (tS o)
abbrev osem : OK → SemLoc sig
  | .inl l => lsem l | .inr k => csem (.inr k)

theorem ownSemFacts : Pipeline.OwnSemFacts cfg0.spec osem := by decide +kernel

/-- The counters of device `c`'s own copies, at zero. -/
def locals (c : Dev nD) : sProp 𝕄 := bigSep Finset.univ fun k : LK => semVal ((c : Thread nD τ), lsem k) 0

theorem bigSep_unit (A : Unit → sProp 𝕄) : bigSep Finset.univ A = A () := bigSep_univ_eq_bigSepL [()] (by decide) (by decide) A
theorem bigSep_two (A : Fin 2 → sProp 𝕄) : bigSep Finset.univ A = iprop(A 0 ∗ A 1) := bigSep_univ_eq_bigSepL [0, 1] (by decide) (by decide) A
theorem bigSep_three (A : Fin 3 → sProp 𝕄) : bigSep Finset.univ A = iprop(A 0 ∗ A 1 ∗ A 2) := bigSep_univ_eq_bigSepL [0, 1, 2] (by decide) (by decide) A

theorem locals_eq (c : Dev nD) : (locals c : sProp 𝕄)
    = iprop((semVal ((c : Thread nD τ), .dma xS) 0
          ∗ (semVal ((c : Thread nD τ), .dma (wS 0)) 0 ∗ semVal ((c : Thread nD τ), .dma (wS 1)) 0 ∗ semVal ((c : Thread nD τ), .dma (wS 2)) 0))
        ∗ semVal ((c : Thread nD τ), .dma pS) 0 ∗ (semVal ((c : Thread nD τ), .dma (tS 0)) 0 ∗ semVal ((c : Thread nD τ), .dma (tS 1)) 0)) := by
  unfold locals
  rw [bigSep_univ_sum, bigSep_univ_sum, bigSep_univ_sum, bigSep_unit, bigSep_unit, bigSep_two, bigSep_three]; rfl

theorem ownSems0_eq (c : Dev nD) : (Pipeline.ownSems0 (Ix := Unit) (Name := ℕ) (U := UU) (Lvl := ℕ) (Val := Elt F) (τ := τ) osem c : sProp 𝕄)
    = iprop(locals c ∗ bigSep Finset.univ fun k : Fin 12 ⊕ Fin 12 => semVal (kcell (c, .inr k)) 0) := by
  unfold Pipeline.ownSems0 locals
  rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element: the cells, and a token for every cell and duty -/

def ringCells : Finset (GSem nD τ sig) := Finset.univ.map ⟨kcell, kcell_injective⟩
abbrev tokOf (x : (Dev nD × CK) × Fin 3) : GSem nD τ sig × ℕ × Fin 3 := (kcell x.1, 0, x.2)
theorem tokOf_injective : Function.Injective tokOf := fun x y h =>
  Prod.ext (kcell_injective (congrArg (fun t : GSem nD τ sig × ℕ × Fin 3 => t.1) h)) (congrArg (fun t : GSem nD τ sig × ℕ × Fin 3 => t.2.2) h)
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

/-- The tokens of device `c`'s own cells. -/
def toks (c : Dev nD) : sProp 𝕄 := bigSep Finset.univ fun k : CK => bigSep Finset.univ fun d : Fin 3 => dutyTok ER (kcell (c, k)) 0 d
/-- The tokens of the duties it pays. -/
def payToks (c : Dev nD) : sProp 𝕄 :=
  iprop((bigSep Finset.univ fun j : Fin 3 => dutyTok ER (barCell (bwd c (dist j.val))) 0 j) ∗ (bigSep Finset.univ fun i : Fin 12 => dutyTok ER (sendCell c i) 0 0)
    ∗ bigSep Finset.univ fun i : Fin 12 => dutyTok ER (recvCell (peer c i) i) 0 0)
/-- Its positions at its own cells. -/
def posns (c : Dev nD) : sProp 𝕄 := bigSep Finset.univ fun k : CK => atPos ER (kcell (c, k)) 0 ∅ 0

def G (c : Dev nD) : sProp 𝕄 :=
  iprop((bigSep Finset.univ fun k : CK => roundState ER (Rd m) (kcell (c, k)) 0) ∗ (bigSep Finset.univ fun k : CK => reached ER (kcell (c, k)) 0)
    ∗ posns c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hr']; · iexact Hr'
  isplitl [Hat'] <;> iassumption

/-! ## The cells opened -/

/-- The records of the cells, the levels aside. -/
def recs (K : Dev nD × CK → ℕ) : sProp 𝕄 :=
  iprop((bigSep Finset.univ fun ck : Dev nD × CK => cellInv ER (Rd m) (K ck) (kcell ck)) ∗ bigSep Finset.univ fun ck : Dev nD × CK => reached ER (kcell ck) 0)
instance recs_persistent (K : Dev nD × CK → ℕ) : BI.Persistent (recs m K) := by unfold recs; infer_instance

/-- What device `c` starts the protocol with. -/
def linear (c : Dev nD) : sProp 𝕄 := iprop(locals c ∗ posns c ∗ payToks c)
def G' (c : Dev nD) : sProp 𝕄 := iprop(∃ K, recs m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => reached ER (kcell (c, k)) 0) ∗ locals c ∗ posns c ∗ toks c) := by
  have hv : (bigSep Finset.univ fun k : CK => semVal (kcell (c, k)) 0 : sProp 𝕄)
      = iprop(semVal (barCell c) 0 ∗ bigSep Finset.univ fun k : Fin 12 ⊕ Fin 12 => semVal (kcell (c, .inr k)) 0) := by
    rw [bigSep_univ_sum, bigSep_unit]; rfl
  have halloc : iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems0_eq, unscopedSems0_eq]
  unfold G
  iintro ⟨⟨Hl, Hos⟩, Hb, Hst, Hr, Hat, Htok⟩
  imod halloc $$ [Hos Hb Hst] with Hinv
  · rw [hv]
    isplitl [Hos Hb]
    · isplitl [Hb] <;> iassumption
    iexact Hst
  imodintro
  isplitl [Hinv]; · iexact Hinv
  isplitl [Hr]; · iexact Hr
  isplitl [Hl]; · iexact Hl
  isplitl [Hat] <;> iassumption

/-- A family of tokens of one cell kind, moved along the ring: device `c`'s to the device it is paid from. -/
theorem moved (e : Dev nD ≃ Dev nD) (A : Dev nD → sProp 𝕄) : bigSep Finset.univ A = bigSep Finset.univ fun c => A (e c) := bigSep_univ_equiv e A

theorem first_duty (g : GSem nD τ sig) : (bigSep Finset.univ fun d : Fin 3 => (dutyTok ER g 0 d : sProp 𝕄)) ⊢ dutyTok ER g 0 0 :=
  bigSep_elim (Finset.mem_univ 0)

theorem toks_around : (bigSep Finset.univ fun c : Dev nD => (toks c : sProp 𝕄)) ⊢ bigSep Finset.univ fun c : Dev nD => payToks c := by
  have hb : (bigSep Finset.univ fun c : Dev nD => bigSep Finset.univ fun j : Fin 3 => (dutyTok ER (barCell c) 0 j : sProp 𝕄))
      = bigSep Finset.univ fun c : Dev nD => bigSep Finset.univ fun j : Fin 3 => dutyTok ER (barCell (bwd c (dist j.val))) 0 j := by
    rw [Pipeline.bigSep_univ_comm, Pipeline.bigSep_univ_comm (fun (c : Dev nD) (j : Fin 3) => (dutyTok ER (barCell (bwd c (dist j.val))) 0 j : sProp 𝕄))]
    exact bigSep_congr fun j _ => moved (along j).symm fun c => dutyTok ER (barCell c) 0 j
  have hr : (bigSep Finset.univ fun c : Dev nD => bigSep Finset.univ fun i : Fin 12 => (dutyTok ER (recvCell c i) 0 0 : sProp 𝕄))
      = bigSep Finset.univ fun c : Dev nD => bigSep Finset.univ fun i : Fin 12 => dutyTok ER (recvCell (peer c i) i) 0 0 := by
    rw [Pipeline.bigSep_univ_comm, Pipeline.bigSep_univ_comm (fun (c : Dev nD) (i : Fin 12) => (dutyTok ER (recvCell (peer c i) i) 0 0 : sProp 𝕄))]
    exact bigSep_congr fun i _ => moved (along ⟨i.val / 4, by omega⟩) fun c => dutyTok ER (recvCell c i) 0 0
  have ht (c : Dev nD) : (toks c : sProp 𝕄)
      ⊢ iprop((bigSep Finset.univ fun j : Fin 3 => dutyTok ER (barCell c) 0 j) ∗ (bigSep Finset.univ fun i : Fin 12 => dutyTok ER (sendCell c i) 0 0)
        ∗ bigSep Finset.univ fun i : Fin 12 => dutyTok ER (recvCell c i) 0 0) := by
    unfold toks
    rw [bigSep_univ_sum, bigSep_univ_sum, bigSep_unit]
    exact sep_mono_right (BI.sep_mono (bigSep_mono fun i _ => first_duty _) (bigSep_mono fun i _ => first_duty _))
  have he : (bigSep Finset.univ fun c : Dev nD => iprop((bigSep Finset.univ fun j : Fin 3 => (dutyTok ER (barCell c) 0 j : sProp 𝕄))
        ∗ (bigSep Finset.univ fun i : Fin 12 => dutyTok ER (sendCell c i) 0 0) ∗ bigSep Finset.univ fun i : Fin 12 => dutyTok ER (recvCell c i) 0 0))
      = bigSep Finset.univ fun c : Dev nD => payToks c := by
    unfold payToks
    rw [bigSep_sep', bigSep_sep', bigSep_sep', bigSep_sep', hb, hr]
  rw [← he]
  exact bigSep_mono fun c _ => ht c

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => reached ER (kcell (c, k)) 0) ∗ locals c ∗ posns c ∗ toks c) : sProp 𝕄)
      ⊢ bigSep Finset.univ (G' m) := by
  have hi (K : Dev nD × CK → ℕ) (c : Dev nD) : iprop(recs m K ∗ linear c) ⊢ G' m c := by
    unfold G'
    iintro H
    iexists K; iexact H
  rw [bigSep_sep', bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, #HR, Hl, Hat, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_all (R := recs m K) (Φ := linear) fun c _ => hi K c)
  isplitr
  · unfold recs; isplitl; · iexact HI
    iexact HR
  · unfold linear
    rw [bigSep_sep', bigSep_sep']
    isplitl [Hl]; · iexact Hl
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_dev {c d : Dev nD} {k l : CK} (h : kcell (c, k) = kcell (d, l)) : c = d ∧ k = l :=
  ⟨congrArg Prod.fst (kcell_injective h), congrArg Prod.snd (kcell_injective h)⟩

theorem tally_at (c d : Dev nD) (k l : CK) (n : ℕ) :
    (tallyAt (kcell (d, l)) () n : CellTallies nD τ sig Unit) (kcell (c, k)) () = if d = c ∧ l = k then n else 0 := by
  rw [tallyAt_apply]
  refine if_congr ⟨fun h => ?_, fun h => ?_⟩ rfl rfl
  · obtain ⟨h1, h2⟩ := cell_dev h.1; exact ⟨h1.symm, h2.symm⟩
  · obtain ⟨rfl, rfl⟩ := h; exact ⟨rfl, rfl⟩

theorem pend_at (d c : Dev nD) (k : CK) :
    pend d 0 (kcell (c, k)) () = ∑ n ∈ Finset.Ico 0 12, if peer d (nth 11 n) = c ∧ (.inr (.inr (nth 11 n)) : CK) = k then N else 0 := by
  unfold pend
  rw [Finset.sum_apply, Finsupp.finset_sum_apply]
  exact Finset.sum_congr rfl fun n _ => tally_at c _ k _ N

/-- What device `d` owes device `c`'s barrier: a unit for each slab of `c`'s coming to `d`. -/
theorem owed_bar (d c : Dev nD) : O₀ d (barCell c) () = ((if d = fwd c (dist 1) then 1 else 0) + if d = fwd c (dist 0) then 1 else 0) + if d = fwd c (dist 2) then 1 else 0 := by
  have hp : pend d 0 (barCell c) () = 0 := by
    rw [pend_at d c (.inl ())]
    exact Finset.sum_eq_zero fun n _ => if_neg fun h => by cases h.2
  have h1 (j : Fin 3) : (tallyAt (barCell (bwd d (dist j.val))) () 1 : CellTallies nD τ sig Unit) (barCell c) () = if d = fwd c (dist j.val) then 1 else 0 := by
    rw [tally_at c _ (.inl ()) (.inl ()) 1]
    refine if_congr ⟨fun h => ?_, fun h => ⟨?_, rfl⟩⟩ rfl rfl
    · rw [← h.1, fwd_bwd]
    · rw [h, bwd_fwd]
  unfold O₀ O₁ O₂
  simp only [Pi.add_apply, Finsupp.add_apply]
  rw [hp, Nat.zero_add]
  exact congrArg₂ (· + ·) (congrArg₂ (· + ·) (h1 1) (h1 0)) (h1 2)

theorem owed_recv (d c : Dev nD) (i : Fin 12) : O₀ d (recvCell c i) () = if d = origin c i then N else 0 := by
  have h0 (j : ℕ) : (tallyAt (barCell (bwd d j)) () 1 : CellTallies nD τ sig Unit) (recvCell c i) () = 0 := by
    rw [tally_at c _ (.inr (.inr i)) (.inl ()) 1, if_neg fun h => by cases h.2]
  have hi : nth 11 i.val = i := Fin.ext (Nat.mod_eq_of_lt i.isLt)
  unfold O₀ O₁ O₂
  simp only [Pi.add_apply, Finsupp.add_apply]
  rw [h0, h0, h0, pend_at d c (.inr (.inr i)), Finset.sum_eq_single i.val]
  · rw [hi]
    refine if_congr ⟨fun h => ?_, fun h => ⟨?_, rfl⟩⟩ rfl rfl
    · rw [← h.1, origin_peer]
    · rw [h, peer_origin]
  · intro n hn hne
    refine if_neg fun h => hne ?_
    have hn' := (Finset.mem_Ico.mp hn).2
    have : nth 11 n = i := by have := h.2; injection this with this; injection this
    rw [← this]
    exact (Nat.mod_eq_of_lt hn').symm
  · intro h; exact absurd (Finset.mem_Ico.mpr ⟨Nat.zero_le _, i.isLt⟩) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem launch_recv (c : Dev nD) (i : Fin 12) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ _ fun _ => N, if_pos (Finset.mem_univ _)]

theorem csem_injective : Function.Injective csem := fun k l h => Option.some.inj (by rw [← cls_csem k, ← cls_csem l, h])

theorem creds (c : Dev nD) :
    (Pipeline.launchCred O₀ c : sProp 𝕄) ⊢ iprop(cred (tallyAt (barCell c) () 3) ∗ bigSep Finset.univ fun i : Fin 12 => cred (tallyAt (recvCell c i) () N)) := by
  have hb := launch_bar c
  have hr := launch_recv c
  have hc : (bigSep (Finset.univ.map ⟨csem, csem_injective⟩) fun sm : SemLoc sig =>
        (cred (tallyOn ((c : Thread nD τ), sm) (launchCredit (Pipeline.owing O₀) 0 ((c : Thread nD τ), sm))) : sProp 𝕄))
      ⊢ iprop(cred (tallyAt (barCell c) () 3) ∗ bigSep Finset.univ fun i : Fin 12 => cred (tallyAt (recvCell c i) () N)) := by
    rw [bigSep_map, bigSep_univ_sum, bigSep_univ_sum, bigSep_unit, ← hb, bigSep_congr fun i _ => congrArg cred (hr i).symm]
    exact sep_mono_right sep_elim_right
  unfold Pipeline.launchCred
  exact (bigSep_subset (Finset.subset_univ (Finset.univ.map ⟨csem, csem_injective⟩))).trans hc

end Cert.Kern

end
-- ==== Proof.Run.lean ====
/-
# 01_k — the run

A device's memory before and after its program, and the kernel run on all four devices from any memory with zero counters:
it ends, with every semaphore at zero, the inputs as they were and the result's pieces at their values.
-/
module

public import proofs.«01_k».proof.Proof.Ghost
public import Idealize.ShloMosaic.Lib.Pipeline.CollectiveSegs

@[expose] public section

set_option maxRecDepth 16384

noncomputable section

namespace Cert.Kern

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (K : Dev nD × CK → ℕ)

/-! ## Memory before the program -/

/-- The four arrays of device `c`, as the launch finds them. -/
def arrays (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} m ((c : Thread nD τ).loc main_v1_0)) ∗ (((c : Thread nD τ).loc main_v1_1) ↦{fullShare} m ((c : Thread nD τ).loc main_v1_1)))

theorem w_shares (c : Dev nD) : (((c : Thread nD τ).loc main_arg1) ↦{fullShare} m ((c : Thread nD τ).loc main_arg1) : sProp 𝕄)
    ⊢ iprop(wAll m c 0 ∗ wAll m c 1 ∗ wAll m c 2) :=
  (pointsTo_share (PosShare.mem_left_op_right fullShare)).1.trans (sep_mono_right (pointsTo_share (PosShare.mem_left_op_right fullShare.right)).1)

theorem x_any (c : Dev nD) (f : Buf (Elt F) ((c : Thread nD τ).loc cc0_scratch0)) : (((c : Thread nD τ).loc cc0_scratch0) ↦{fullShare} f : sProp 𝕄) ⊢ anyOf c xB := by
  unfold anyOf
  iintro H
  iexists f
  rw [View.set_whole]; iexact H
theorem p_any (c : Dev nD) (f : Buf (Elt F) ((c : Thread nD τ).loc cc0_scratch3)) : (((c : Thread nD τ).loc cc0_scratch3) ↦{fullShare} f : sProp 𝕄) ⊢ anyOf c pB := by
  unfold anyOf
  iintro H
  iexists f
  rw [View.set_whole]; iexact H
theorem any_x (c : Dev nD) : (anyOf c xB : sProp 𝕄) ⊢ iprop(∃ f, ((c : Thread nD τ).loc cc0_scratch0) ↦{fullShare} f) := by
  unfold anyOf
  rw [View.set_whole]
theorem any_p (c : Dev nD) : (anyOf c pB : sProp 𝕄) ⊢ iprop(∃ f, ((c : Thread nD τ).loc cc0_scratch3) ↦{fullShare} f) := by
  unfold anyOf
  rw [View.set_whole]

theorem run_three (A : Fin 3 → sProp 𝕄) : (bigSep (Finset.Ico 0 3) fun k => A (nth 2 k)) = iprop(A 0 ∗ A 1 ∗ A 2) := by
  rw [← bigSep_fin_run 2 A, bigSep_three]
theorem run_two (A : Fin 2 → sProp 𝕄) : (bigSep (Finset.Ico 0 2) fun k => A (nth 1 k)) = iprop(A 0 ∗ A 1) := by
  rw [← bigSep_fin_run 1 A, bigSep_two]

theorem cut_s (c : Dev nD) (f : Buf (Elt F) ((c : Thread nD τ).loc cc0_scratch2)) : (((c : Thread nD τ).loc cc0_scratch2) ↦{fullShare} f : sProp 𝕄)
    ⊢ bigSep (Finset.Ico 0 12) fun k => anyOf c (sPiece (nth 11 k)) := cut (sParts c) f
theorem cut_r (c : Dev nD) (f : Buf (Elt F) ((c : Thread nD τ).loc main_v1_1)) : (((c : Thread nD τ).loc main_v1_1) ↦{fullShare} f : sProp 𝕄)
    ⊢ iprop(room c 0 ∗ room c 1 ∗ room c 2) := by
  have h : (((c : Thread nD τ).loc main_v1_1) ↦{fullShare} f : sProp 𝕄) ⊢ bigSep (Finset.Ico 0 12) fun k => anyOf c (rPiece (nth 11 k)) := cut (rParts c) f
  rw [bigSep_runs (b := 4) (by decide) (by decide), bigSep_runs (a := 4) (b := 8) (by decide) (by decide)] at h
  exact h
theorem cut_w (c : Dev nD) (f : Buf (Elt F) ((c : Thread nD τ).loc cc0_scratch1)) : (((c : Thread nD τ).loc cc0_scratch1) ↦{fullShare} f : sProp 𝕄)
    ⊢ iprop(anyOf c (wSlot 0) ∗ anyOf c (wSlot 1) ∗ anyOf c (wSlot 2)) := by
  rw [← run_three fun k => anyOf c (wSlot k)]; exact cut (wParts c) f
theorem cut_t (c : Dev nD) (f : Buf (Elt F) ((c : Thread nD τ).loc cc0_scratch4)) : (((c : Thread nD τ).loc cc0_scratch4) ↦{fullShare} f : sProp 𝕄)
    ⊢ iprop(anyOf c (tSlot 0) ∗ anyOf c (tSlot 1)) := by
  rw [← run_two fun o => anyOf c (tSlot o)]; exact cut (tParts c) f
theorem cut_o (c : Dev nD) (f : Buf (Elt F) ((c : Thread nD τ).loc main_v1_0)) : (((c : Thread nD τ).loc main_v1_0) ↦{fullShare} f : sProp 𝕄)
    ⊢ bigSep (Finset.Ico 0 16) fun k => anyOf c (oPiece c (nth 15 k)) := cut (oParts c) f

theorem home_in (c : Dev nD) : iprop(arrays m c ∗ Pipeline.scopedRest cfg0.spec c ∗ locals c)
    ⊢ iprop(xHome m c ∗ (room c 0 ∗ room c 1 ∗ room c 2) ∗ (bigSep (Finset.Ico 0 12) fun k => anyOf c (sPiece (nth 11 k))) ∗ ownIn m c) := by
  rw [scopedRest0_eq, locals_eq]
  unfold arrays xHome ownIn wFree pRest oRest
  iintro ⟨⟨Hx, Hw, Ho, Hr⟩, ⟨⟨%fx, Hxb⟩, ⟨%fw, Hwb⟩, ⟨%fs, Hsb⟩, ⟨%fp, Hpb⟩, ⟨%ft, Htb⟩⟩, ⟨Hxs, ⟨Hw0, Hw1, Hw2⟩⟩, Hps, ⟨Ht0, Ht1⟩⟩
  ihave Hw := (w_shares m c) $$ Hw
  icases Hw with ⟨Ha0, Ha1, Ha2⟩
  ihave Hwb := (cut_w c fw) $$ Hwb
  icases Hwb with ⟨Hb0, Hb1, Hb2⟩
  ihave Htb := (cut_t c ft) $$ Htb
  icases Htb with ⟨Hs0, Hs1⟩
  ihave Hxb := (x_any c fx) $$ Hxb
  ihave Hpb := (p_any c fp) $$ Hpb
  ihave Hr := (cut_r c _) $$ Hr
  ihave Hsb := (cut_s c fs) $$ Hsb
  ihave Ho := (cut_o c _) $$ Ho
  isplitl [Hx]
  · rw [View.set_whole]; iexact Hx
  isplitl [Hr]; · iexact Hr
  isplitl [Hsb]; · iexact Hsb
  isplitl [Hxb Hxs]
  · isplitl [Hxb] <;> iassumption
  isplitl [Ha0 Ha1 Ha2 Hb0 Hb1 Hb2 Hw0 Hw1 Hw2]
  · isplitl [Ha0 Hb0 Hw0]
    · isplitl [Ha0]; · iexact Ha0
      isplitl [Hb0] <;> iassumption
    isplitl [Ha1 Hb1 Hw1]
    · isplitl [Ha1]; · iexact Ha1
      isplitl [Hb1] <;> iassumption
    · isplitl [Ha2]; · iexact Ha2
      isplitl [Hb2] <;> iassumption
  isplitl [Hpb Hps]
  · isplitl [Hpb] <;> iassumption
  isplitl [Hs0 Hs1 Ht0 Ht1]
  · isplitl [Hs0 Ht0]
    · isplitl [Hs0] <;> iassumption
    · isplitl [Hs1] <;> iassumption
  iexact Ho

/-! ## The protocol's part -/

/-- The credits the launch gives device `c`. -/
def credIn (c : Dev nD) : sProp 𝕄 :=
  iprop(cred (tallyAt (barCell c) () 3) ∗ bigSep Finset.univ fun i : Fin 12 => cred (tallyAt (recvCell c i) () N))

theorem ghosts_in (c : Dev nD) : iprop(recs m K ∗ levAts L lv ∗ posns c ∗ payToks c ∗ credIn c)
    ⊢ iprop(records m K
      ∗ ((dutyTok ER (barCell (bwd c (dist 0))) 0 0 ∗ dutyTok ER (barCell (bwd c (dist 1))) 0 1 ∗ dutyTok ER (barCell (bwd c (dist 2))) 0 2)
        ∗ cred (tallyAt (barCell c) () 3) ∗ atPos ER (barCell c) 0 ∅ 0)
      ∗ ((bigSep (Finset.Ico 0 12) fun k => dutyTok ER (sendCell c (nth 11 k)) 0 0)
        ∗ bigSep (Finset.Ico 0 12) fun k => dutyTok ER (recvCell (peer c (nth 11 k)) (nth 11 k)) 0 0)
      ∗ (bigSep (Finset.Ico 0 12) fun k => atPos ER (sendCell c (nth 11 k)) 0 ∅ 0) ∗ bigSep (Finset.Ico 0 12) fun k => recvIn c (nth 11 k)) := by
  have hp : (posns c : sProp 𝕄) = iprop(atPos ER (barCell c) 0 ∅ 0 ∗ (bigSep Finset.univ fun i : Fin 12 => atPos ER (sendCell c i) 0 ∅ 0)
      ∗ bigSep Finset.univ fun i : Fin 12 => atPos ER (recvCell c i) 0 ∅ 0) := by
    unfold posns; rw [bigSep_univ_sum, bigSep_univ_sum, bigSep_unit]; rfl
  have ht : (payToks c : sProp 𝕄) = iprop((dutyTok ER (barCell (bwd c (dist 0))) 0 0 ∗ dutyTok ER (barCell (bwd c (dist 1))) 0 1 ∗ dutyTok ER (barCell (bwd c (dist 2))) 0 2)
      ∗ (bigSep Finset.univ fun i : Fin 12 => dutyTok ER (sendCell c i) 0 0) ∗ bigSep Finset.univ fun i : Fin 12 => dutyTok ER (recvCell (peer c i) i) 0 0) := by
    unfold payToks; rw [bigSep_three]; rfl
  rw [hp, ht, ← bigSep_fin_run 11 fun i => (dutyTok ER (sendCell c i) 0 0 : sProp 𝕄), ← bigSep_fin_run 11 fun i => (dutyTok ER (recvCell (peer c i) i) 0 0 : sProp 𝕄),
    ← bigSep_fin_run 11 fun i => (atPos ER (sendCell c i) 0 ∅ 0 : sProp 𝕄), ← bigSep_fin_run 11 fun i => (recvIn c i : sProp 𝕄)]
  unfold recs records credIn recvIn
  rw [bigSep_sep']
  iintro ⟨⟨HI, HR⟩, Hl, ⟨Hab, Has, Har⟩, ⟨Htb, Hts, Htr⟩, Hcb, Hcr⟩
  isplitl [HI HR Hl]
  · isplitl [HI]; · iexact HI
    isplitl [HR] <;> iassumption
  isplitl [Htb Hcb Hab]
  · isplitl [Htb]; · iexact Htb
    isplitl [Hcb] <;> iassumption
  isplitl [Hts Htr]
  · isplitl [Hts] <;> iassumption
  isplitl [Has]; · iexact Has
  isplitl [Hcr] <;> iassumption

/-! ## Before and after a device's program -/

/-- What device `c` starts with, its scratch memory aside. -/
def start (c : Dev nD) : sProp 𝕄 := iprop(G' m c ∗ credIn c ∗ levAts L lv ∗ arrays m c)
def before (c : Dev nD) : sProp 𝕄 := iprop(start m c ∗ Pipeline.scopedRest cfg0.spec c)

/-- Its arrays at the end: the inputs unchanged, every piece of the result at its value. -/
def finals (c : Dev nD) : sProp 𝕄 :=
  iprop(xHome m c ∗ wAll m c 0 ∗ ∃ g, ⌜∀ t : Fin 16, (oPiece c t).view.read (Elt F) g = oval m c t.val⌝ ∗ (((c : Thread nD τ).loc main_v1_0) ↦{fullShare} g))
def after (c : Dev nD) : sProp 𝕄 :=
  iprop((finals m c ∗ unscopedSems0 c) ∗ Pipeline.ownSems0 (Ix := Unit) (Name := ℕ) (U := UU) (Lvl := ℕ) (Val := Elt F) (τ := τ) osem c ∗ Pipeline.scopedRest cfg0.spec c)

theorem enter (c : Dev nD) : iprop(before m c ∗ owe c (O₀ c)) ⊢ iprop(∃ K, progIn m K c) := by
  unfold before start G' linear
  iintro ⟨⟨⟨⟨%K, HR, ⟨Hl, Hp, Ht⟩⟩, Hc, Hv, Ha⟩, Hs⟩, HO⟩
  iexists K
  ihave Hh := (home_in m c) $$ [Ha Hs Hl]
  · isplitl [Ha]; · iexact Ha
    isplitl [Hs] <;> iassumption
  ihave Hg := (ghosts_in m K c) $$ [HR Hv Hp Ht Hc]
  · isplitl [HR]; · iexact HR
    isplitl [Hv]; · iexact Hv
    isplitl [Hp]; · iexact Hp
    isplitl [Ht] <;> iassumption
  icases Hh with ⟨Hx, Hr, Hsb, Hown⟩
  icases Hg with ⟨Hrec, ⟨Hbt, Hbc⟩, Hst, Has, Hri⟩
  unfold progIn barIn sendsIn
  isplitl [Hrec]; · iexact Hrec
  isplitl [Hx]; · iexact Hx
  isplitl [Hr Hbt Hbc]
  · isplitl [Hr]; · iexact Hr
    isplitl [Hbt] <;> iassumption
  isplitl [Hsb Hst]
  · isplitl [Hsb] <;> iassumption
  isplitl [Hown]; · iexact Hown
  isplitl [Has]; · iexact Has
  isplitl [Hri] <;> iassumption

theorem glue_s (c : Dev nD) (f₀ : Buf (Elt F) ((c : Thread nD τ).loc cc0_scratch2)) : (bigSep (Finset.Ico 0 12) fun k => (anyOf c (sPiece (nth 11 k)) : sProp 𝕄))
    ⊢ iprop(∃ f, ((c : Thread nD τ).loc cc0_scratch2) ↦{fullShare} f) :=
  have h := glue_any (F := F) (sParts c) f₀
  h
theorem glue_w (c : Dev nD) (f₀ : Buf (Elt F) ((c : Thread nD τ).loc cc0_scratch1)) : iprop(anyOf c (wSlot 0) ∗ anyOf c (wSlot 1) ∗ anyOf c (wSlot 2))
    ⊢ (iprop(∃ f, ((c : Thread nD τ).loc cc0_scratch1) ↦{fullShare} f) : sProp 𝕄) := by
  rw [← run_three fun k => anyOf c (wSlot k)]
  have h := glue_any (F := F) (wParts c) f₀
  exact h
theorem glue_t (c : Dev nD) (f₀ : Buf (Elt F) ((c : Thread nD τ).loc cc0_scratch4)) : iprop(anyOf c (tSlot 0) ∗ anyOf c (tSlot 1))
    ⊢ (iprop(∃ f, ((c : Thread nD τ).loc cc0_scratch4) ↦{fullShare} f) : sProp 𝕄) := by
  rw [← run_two fun o => anyOf c (tSlot o)]
  have h := glue_any (F := F) (tParts c) f₀
  exact h

theorem glue_o (c : Dev nD) : (bigSep (Finset.Ico 0 16) (oDone m c) : sProp 𝕄)
    ⊢ iprop(∃ g, ⌜∀ t : Fin 16, (oPiece c t).view.read (Elt F) g = oval m c t.val⌝ ∗ (((c : Thread nD τ).loc main_v1_0) ↦{fullShare} g)) := by
  have one (k : ℕ) (hk : k < 16) : (oDone m c k : sProp 𝕄)
      ⊢ iprop(∃ f, ⌜(oPiece c (nth 15 k)).view.read (Elt F) f = oval m c (nth 15 k).val⌝ ∗ ((c : Thread nD τ).loc main_v1_0) ↦[(oPiece c (nth 15 k)).view.set]{fullShare} f) := by
    rw [show (nth 15 k).val = k from Nat.mod_eq_of_lt hk]
    exact .rfl
  refine (bigSep_mono fun k hk => one k (Finset.mem_Ico.mp hk).2).trans ?_
  exact glue (oParts c) (m ((c : Thread nD τ).loc main_v1_0)) (fun t f => (oPiece c t).view.read (Elt F) f = oval m c t.val) fun t f g h hf => ((oPiece c t).view.read_congr h).trans hf

theorem leave (c : Dev nD) : progOut m c ⊢ iprop(after m c ∗ owe c 0) := by
  unfold after finals
  have hs : (bigSep Finset.univ fun k : Fin 12 ⊕ Fin 12 => (semVal (kcell (c, .inr k)) 0 : sProp 𝕄))
      = iprop((bigSep (Finset.Ico 0 12) fun k => semVal (sendCell c (nth 11 k)) 0) ∗ bigSep (Finset.Ico 0 12) fun k => semVal (recvCell c (nth 11 k)) 0) := by
    rw [bigSep_univ_sum, ← bigSep_fin_run 11 fun i => (semVal (sendCell c i) 0 : sProp 𝕄), ← bigSep_fin_run 11 fun i => (semVal (recvCell c i) 0 : sProp 𝕄)]
    rfl
  rw [scopedRest0_eq, ownSems0_eq, locals_eq, unscopedSems0_eq, hs]
  unfold progOut ownOut wFree pRest oRest
  iintro ⟨Hx, ⟨⟨Hxb, Hxs⟩, ⟨⟨Ha0, Hb0, Hw0⟩, ⟨-, Hb1, Hw1⟩, ⟨-, Hb2, Hw2⟩⟩, ⟨Hpb, Hps⟩, ⟨⟨Hs0, Ht0⟩, ⟨Hs1, Ht1⟩⟩, Ho⟩, Hbar, Hsb, Hss, Hrs, HO⟩
  ihave Hxb := (any_x c) $$ Hxb
  ihave Hpb := (any_p c) $$ Hpb
  ihave Hsb := (glue_s c (m ((c : Thread nD τ).loc cc0_scratch2))) $$ Hsb
  ihave Ho := (glue_o m c) $$ Ho
  ihave Hwb := (glue_w c (m ((c : Thread nD τ).loc cc0_scratch1))) $$ [Hb0 Hb1 Hb2]
  · isplitl [Hb0]; · iexact Hb0
    isplitl [Hb1] <;> iassumption
  ihave Htb := (glue_t c (m ((c : Thread nD τ).loc cc0_scratch4))) $$ [Hs0 Hs1]
  · isplitl [Hs0] <;> iassumption
  isplitr [HO]
  · isplitl [Hx Ha0 Ho Hbar]
    · isplitl [Hx Ha0 Ho]
      · isplitl [Hx]; · iexact Hx
        isplitl [Ha0] <;> iassumption
      · iexact Hbar
    isplitl [Hxs Hw0 Hw1 Hw2 Hps Ht0 Ht1 Hss Hrs]
    · isplitl [Hxs Hw0 Hw1 Hw2 Hps Ht0 Ht1]
      · isplitl [Hxs Hw0 Hw1 Hw2]
        · isplitl [Hxs]; · iexact Hxs
          isplitl [Hw0]; · iexact Hw0
          isplitl [Hw1] <;> iassumption
        isplitl [Hps]; · iexact Hps
        isplitl [Ht0] <;> iassumption
      · isplitl [Hss] <;> iassumption
    isplitl [Hxb]; · iexact Hxb
    isplitl [Hwb]; · iexact Hwb
    isplitl [Hsb]; · iexact Hsb
    isplitl [Hpb] <;> iassumption
  · iexact HO

/-! ## The launch -/

/-- The launch's one region: no windows, one point; a device's program takes `before` to `after` and pays all it owes. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => O₀ c
    | ⟨_ + 1, _⟩ => 0

theorem body_runs (c : Dev nD) (Q : PUnit → sProp 𝕄) : (runs c (bodyAt0 (F := F) t0_0) Q : sProp 𝕄) = runs c (prog c) Q := by
  rw [body_eq]
  unfold runs
  rw [wp_deviceId]

/-- A device's program takes it from `before` to `after`, everything it owed paid. -/
theorem body_spec (c : Dev nD) (Q : PUnit → sProp 𝕄) :
    iprop(before m c ∗ owe c (O₀ c)) ⊢ iprop(((after m c ∗ owe c 0) -∗ Q ⟨⟩) -∗ runs c (bodyAt0 (F := F) t0_0) Q) := by
  rw [body_runs]
  iintro H HQ
  ihave H := (enter m c) $$ H
  icases H with ⟨%K, H⟩
  iapply (prog_spec m K c Q) $$ H
  iintro H
  iapply HQ
  iapply (leave m c)
  iexact H

theorem body_obligation (c : Dev nD) : BodyObligation (dats (F := F) m 0 c) (defs₀ (F := F)) 𝒱₀ () Set.univ := fun t => by
  rw [fin_N0 t]
  show iprop(before m c ∗ (dats (F := F) m 0 c).owesAt () t0_0.castSucc ∗ _) ⊢ runs c (bodyAt0 (F := F) t0_0) fun _ => iprop(after m c ∗ (dats (F := F) m 0 c).owesAt () t0_0.succ ∗ _)
  unfold Dat.owesAt Pipeline.owesWithin
  iintro ⟨Hb, ⟨%W, %hW, HO⟩, Hw⟩
  iapply (body_spec m c _) $$ [Hb HO]
  · isplitl [Hb]; · iexact Hb
    unfold owe
    iexists W; iexact HO
  unfold owe
  iintro ⟨Ha, ⟨%W', HO⟩⟩
  isplitl [Ha]; · iexact Ha
  isplitl [HO]
  · iexists W'
    isplitr
    · ipureintro; exact fun _ _ => Or.inl trivial
    · iexact HO
  · iapply (Entails.of_eq (bigSep_congr fun w _ => w.elim0)) $$ Hw

theorem share_eq (c : Dev nD) (w : Fin cfg0.W) : (dats m 0 c).share w = fullShare := w.elim0

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨Ha, Hl, Hc, -, HG⟩
  ihave Hc := (creds (F := F) c) $$ Hc
  imodintro
  isplitl
  · isplitl [HG]; · iexact HG
    isplitl [Hc]; · unfold credIn; iexact Hc
    isplitl [Hl]; · iexact Hl
    unfold arrays; iexact Ha
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs] <;> iassumption

theorem after_exit (c : Dev nD) :
    (dats m 0 c).Φ (Fin.last cfg0.N) ⊢ iprop((finals m c ∗ unscopedSems0 c) ∗ Pipeline.ownSems0 osem c ∗ Pipeline.scopedRest cfg0.spec c) := by
  rw [show (dats m 0 c).Φ (Fin.last cfg0.N) = after m c from rfl]
  unfold after
  exact .rfl

theorem waits (c : Dev nD) : (levAts L lv : sProp 𝕄) ⊢ Pipeline.cellsWaits cfgs (dats m) () 0 c :=
  Pipeline.cellsWaits_intro cfgs (dats m) () 0 c fun w s t => w.elim0

/-- Device `c`'s arrays in memory `μ`: the inputs unchanged, every piece of the result at its value. -/
def Ends (c : Dev nD) (μ : MemSt nD τ sig (Elt F)) : Prop :=
  μ.mem ((c : Thread nD τ).loc main_arg0) = m ((c : Thread nD τ).loc main_arg0) ∧ μ.mem ((c : Thread nD τ).loc main_arg1) = m ((c : Thread nD τ).loc main_arg1)
    ∧ ∀ t : Fin 16, (oPiece c t).view.read (Elt F) (μ.mem ((c : Thread nD τ).loc main_v1_0)) = oval m c t.val

theorem finals_read (c : Dev nD) (s' : Phys nD τ sig (Elt F)) : iprop(finals m c ∗ SI s') ⊢ (iprop(⌜Ends m c s'.mem⌝ ∗ SI s') : sProp 𝕄) := by
  unfold finals xHome wAll
  iintro ⟨⟨Hx, Hw, ⟨%g, %hg, Ho⟩⟩, HSI⟩
  rw [View.set_whole]
  ihave %hx := SI_pointsTo_agree $$ [HSI Hx]
  · isplitl [HSI] <;> iassumption
  ihave %hw := SI_pointsTo_agree $$ [HSI Hw]
  · isplitl [HSI] <;> iassumption
  ihave %ho := SI_pointsTo_agree $$ [HSI Ho]
  · isplitl [HSI] <;> iassumption
  isplitr [HSI]
  · ipureintro
    refine ⟨funext fun i => hx i (Finset.mem_univ i), funext fun i => hw i (Finset.mem_univ i), fun t => ?_⟩
    rw [show s'.mem.mem ((c : Thread nD τ).loc main_v1_0) = g from funext fun i => ho i (Finset.mem_univ i)]
    exact hg t
  · iexact HSI

/-- For any float values, from any memory with zero counters: every weakly fair execution on the four devices ends, with each
    device's inputs unchanged, every piece of its result at its value and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ [HX] with HG
      · unfold ER; iexact HX
      imodintro
      isplitl [HP] <;> iassumption)
    (hglob := glob m)
    (hA := fun _ w => w.elim0) (hpf := fun _ k => k.elim0)
    (X := start m) (Y := fun c => iprop(finals m c ∗ unscopedSems0 c)) (Z := fun _ => iprop(emp))
    (hX := start_intro m ρ) (hin := before_intro m) (hout := after_exit m)
    (QY := fun c s => Ends m c s ∧ ∀ sm : SemLoc sig, sm.isScoped .tc = false → s.sem ((c.tc : Thread nD τ), sm) = 0)
    (hY := fun c s' => by
      iintro ⟨⟨Hf, Hu⟩, -, HSI⟩
      ihave H := (finals_read m c s') $$ [Hf HSI]
      · isplitl [Hf] <;> iassumption
      icases H with ⟨%he, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨he, hs⟩
      · iexact HSI)
    (hQ := fun _ h hs => ⟨fun c => (h c).2.2.1, sem_eq_zero hs fun c => (h c).2.2.2⟩)

end Cert.Kern

end
-- ==== Proof.Value.lean ====
/-
# 01_k — the value

At extended reals the formats the pieces travel in change nothing, so every piece of a device's result is the product of some
device's rows of `x` with a quarter of the columns the result's device keeps: the whole is that device's block of `x @ w`.
-/
module

public import proofs.«01_k».proof.Proof.Run
public import proofs.«01_k».proof.Proof.Gen.ReferenceIdeal
public import Idealize.ShloMosaic.Lib.MatmulPlain
public import Idealize.ShloMosaic.Lib.StackMember
public import Idealize.ShloMosaic.Lib.Layout

@[expose] public section

set_option maxRecDepth 16384

noncomputable section

namespace Cert.Kern

open Cert.KernelIdeal Cert.KernelIdeal.Gen

open Idealize.ShloMosaic Idealize.ShloMosaic.TcCoe Idealize.ShloMosaic.ValueIdx

variable (m : (ℓ : Loc nD τ sig) → Buf (Elt Ideal) ℓ)

/-- The compute step whose columns stage `t` of the output holds. -/
def stepOf : ℕ → Fin 16
  | 0 => 12 | 1 => 13 | 2 => 14 | 3 => 0 | 4 => 15 | n + 5 => nth 15 (n + 1)

theorem step_for : ∀ (c : Dev nD) (t : Fin 16),
    fwd (stageSrc c t.val) (dist ((stepOf t.val).val / 4)) = c ∧ (stepOf t.val).val % 4 = stageCol t.val := by decide +kernel

theorem mmB_ideal (x : Vec Ideal S1024x4096 .f32) (w : Vec Ideal S4096x512 .f32) : extf .f32 (mmB x w) bitsLt_bf16_f32 = mm x w := rfl

theorem origin_stage : ∀ (c : Dev nD) (n : Fin 11), origin c (nth 11 (n.val + 1)) = stageSrc c (n.val + 5) := by decide +kernel

/-- A stage of device `c`'s output is the source device's rows times the columns of the stage's step. -/
theorem oval_eq (c : Dev nD) (t : Fin 16) : oval m c t.val = mm (xv m (stageSrc c t.val)) (wv m (stageSrc c t.val) (stepOf t.val)) := by
  have own : stageSrc c 0 = c := (by decide +kernel : ∀ c : Dev nD, stageSrc c 0 = c) c
  match t with
  | ⟨0, _⟩ => show mm (xv m c) (wv m c 12) = mm (xv m (stageSrc c 0)) (wv m (stageSrc c 0) 12); rw [own]
  | ⟨1, _⟩ => show mm (xv m c) (wv m c 13) = mm (xv m (stageSrc c 0)) (wv m (stageSrc c 0) 13); rw [own]
  | ⟨2, _⟩ => show mm (xv m c) (wv m c 14) = mm (xv m (stageSrc c 0)) (wv m (stageSrc c 0) 14); rw [own]
  | ⟨3, _⟩ => exact mmB_ideal _ _
  | ⟨4, _⟩ => show mm (xv m c) (wv m c 15) = mm (xv m (stageSrc c 0)) (wv m (stageSrc c 0) 15); rw [own]
  | ⟨n + 5, hn⟩ =>
    have hs : (⟨(nth 11 (n + 1)).val, by omega⟩ : Fin 16) = nth 15 (n + 1) := Fin.ext (by
      show (n + 1) % 12 = (n + 1) % 16
      rw [Nat.mod_eq_of_lt (by omega), Nat.mod_eq_of_lt (by omega)])
    have ho : origin c (nth 11 (n + 1)) = stageSrc c (n + 5) := origin_stage c ⟨n, by omega⟩
    show extf .f32 (mmB (xv m (origin c (nth 11 (n + 1)))) (wv m (origin c (nth 11 (n + 1))) ⟨(nth 11 (n + 1)).val, _⟩)) bitsLt_bf16_f32
      = mm (xv m (stageSrc c (n + 5))) (wv m (stageSrc c (n + 5)) (nth 15 (n + 1)))
    rw [mmB_ideal, hs, ho]

theorem mm_at (x : Vec Ideal S1024x4096 .f32) (w : Vec Ideal S4096x512 .f32) (y : S1024x512.Idx) :
    mm x w y = ∑ k : Fin 4096, (x (ix2 (n0 := 1024) (y 0) k) : EReal) * w (ix2 (n1 := 512) k (y 1)) := by
  refine (congrArg (mm x w) (eq_ix2 (n0 := 1024) (n1 := 512) y)).trans ?_
  refine (Ideal.matmul_plain_apply none x w (constant S1024x512 .f32 0x00000000#32) (y 0) (y 1)).trans ?_
  show Ideal.ofBits .f32 0x00000000#32 + _ = _
  rw [Ideal.ofBits_zero_f32, zero_add]

/-- The reference's product. -/
abbrev whole (x : Cert.ReferenceIdeal.S4096x4096.Idx → Elt Ideal .f32) (w : S4096x8192.Idx → Elt Ideal .f32) : S4096x8192.Idx → Elt Ideal .f32 :=
  Host.dotGeneral (F := Ideal) (φ₁ := .f32) (φ₂ := .f32) Cert.ReferenceIdeal.dot_S4096x4096_S4096x8192_S4096x8192_1_0_0_1_n_n none x w

theorem whole_at (x : Cert.ReferenceIdeal.S4096x4096.Idx → Elt Ideal .f32) (w : S4096x8192.Idx → Elt Ideal .f32) (j : S4096x8192.Idx) :
    whole x w j = ∑ k : Fin 4096, (x (ix2 (n0 := 4096) (j 0) k) : EReal) * w (ix2 (n1 := 8192) k (j 1)) :=
  (congrArg (whole x w) (eq_ix2 (n0 := 4096) (n1 := 8192) j)).trans (StackMember.dotGeneral_plain_apply (m := 4096) (n := 8192) none x w (j 0) (j 1))

/-- A device's memory at the end holds its block of the product of the whole `x` with `w`. -/
theorem value (x : Cert.ReferenceIdeal.S4096x4096.Idx → Elt Ideal .f32) (w : S4096x8192.Idx → Elt Ideal .f32)
    (hx : ∀ c : Dev nD, m ((c : Thread nD τ).loc main_arg0) = Layout.block ⟨2, ![1024, 4096]⟩ ⟨2, ![4096, 4096]⟩ 0 4 c x)
    (hw : ∀ c : Dev nD, m ((c : Thread nD τ).loc main_arg1) = w) (c : Dev nD) (μ : MemSt nD τ sig (Elt Ideal)) (h : Ends m c μ) :
    μ.mem ((c : Thread nD τ).loc main_v1_0) = Layout.block ⟨2, ![4096, 2048]⟩ ⟨2, ![4096, 8192]⟩ 1 4 c (whole x w) := by
  funext i
  obtain ⟨t, ht⟩ := (oParts c).all i
  obtain ⟨y, -, rfl⟩ := Finset.mem_map.mp ht
  have hy := congrFun (h.2.2 t) y
  rw [View.read_apply] at hy
  refine Eq.trans hy ?_
  obtain ⟨hc, hq⟩ := step_for c t
  have e0 : ((oPiece c t).view.emb y 0).val = 1024 * (stageSrc c t.val).val + (y 0).val := by
    show outOff c t.val 0 + 1 * (y 0).val = _
    rw [outOff_eq, Nat.one_mul]; rfl
  have e1 : ((oPiece c t).view.emb y 1).val = 512 * stageCol t.val + (y 1).val := by
    show outOff c t.val 1 + 1 * (y 1).val = _
    rw [outOff_eq, Nat.one_mul]; rfl
  rw [oval_eq, Layout.block_apply, mm_at]
  refine Eq.trans ?_ (whole_at x w _).symm
  refine Finset.sum_congr (M := EReal) rfl fun k _ => congrArg₂ (fun a b : EReal => a * b) ?_ ?_
  · unfold xv
    rw [View.read_apply, hx, Layout.block_apply]
    refine congrArg x ?_
    funext a
    match a with
    | ⟨0, _⟩ =>
      apply Fin.ext
      show (stageSrc c t.val).val * 1024 + (y 0).val = ((oPiece c t).view.emb y 0).val
      rw [e0]; omega
    | ⟨1, _⟩ => rfl
  · unfold wv
    rw [View.read_apply, hw]
    refine congrArg w ?_
    funext a
    match a with
    | ⟨0, _⟩ =>
      apply Fin.ext
      show wOff (stageSrc c t.val) (stepOf t.val) 0 + 1 * k.val = k.val
      rw [wOff_eq]
      show 0 + 1 * k.val = k.val
      omega
    | ⟨1, _⟩ =>
      apply Fin.ext
      show wOff (stageSrc c t.val) (stepOf t.val) 1 + 1 * (y 1).val = c.val * 2048 + ((oPiece c t).view.emb y 1).val
      rw [wOff_eq, e1]
      show 2048 * (fwd (stageSrc c t.val) (dist ((stepOf t.val).val / 4))).val + 512 * ((stepOf t.val).val % 4) + 1 * (y 1).val = _
      rw [hc, hq]; omega

end Cert.Kern

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel at machine floats: its text is the idealization's, run at any float values. -/
theorem frame_kernel : Cert.quiescent_Kernel := fun m ρ _ =>
  (θ_run Cert.KernelIdeal.defs _ _).mono (fun _ h => ⟨fun c => ⟨(h.1 c).1, (h.1 c).2.1⟩, h.2⟩) (Cert.Kern.run_main (F := Bits) m ρ)

/-- The idealization: the same run, at extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Kern.run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the product of the whole arrays. -/
theorem same_value : Cert.algebraic_KernelIdeal_ReferenceIdeal := fun m ρ m' ρ' _ hm =>
  ⟨Cert.Kern.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨Cert.Kern.value m _ _ (fun d => (hm d).1) (fun d => (hm d).2) c r.2 (h.1 c), (h.1 c).1, (h.1 c).2.1⟩)
      (Cert.Kern.run_main (F := Ideal) m ρ),
    (θ_run Cert.ReferenceIdeal.defs _ _).mono (fun _ h => h 0) (Cert.ReferenceIdeal.Value.run (F := Ideal) m' ρ')⟩

/-- All claims together. -/
theorem claim : Cert.Claim := ⟨Cert.Kernel.Gen.facts, Cert.KernelIdeal.Gen.facts, Cert.ReferenceIdeal.Gen.facts,
  frame_kernel, frame_ideal, frame_reference, trivial, same_value⟩

end Cert.Proof

end
